-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_shared_grid [hPre_shared_grid : Cert.Pre_shared_grid.Facts] (m : (ℓ : Loc Cert.KernelIdeal.nD Cert.KernelIdeal.τ Cert.KernelIdeal.sig) → Buf (Elt Ideal) ℓ) : Prop :=
  ∀ c : Dev Cert.KernelIdeal.nD,
    (Cert.Pre_shared_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_shared_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_shared_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_shared_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_shared_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_shared_grid [hPre_shared_grid : Cert.Pre_shared_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_shared_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_shared_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_shared_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_shared_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_shared_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_shared_grid [hKernelIdeal : Cert.KernelIdeal.Facts] [hPre_shared_grid : Cert.Pre_shared_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_shared_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_shared_grid [hReferenceIdeal : Cert.ReferenceIdeal.Facts] [hPre_shared_grid : Cert.Pre_shared_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_shared_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_clear_of_guard_pre_shared_grid [hKernelIdeal : Cert.KernelIdeal.Facts] [hReferenceIdeal : Cert.ReferenceIdeal.Facts] [hPre_shared_grid : Cert.Pre_shared_grid.Facts] [hOn_clear_of_guard : Cert.On_clear_of_guard.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_shared_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![2, 32, 28, 28]⟩ : Shape).Idx, (Cert.On_clear_of_guard.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v8) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![2, 32, 28, 28]⟩ : Shape).Idx, (Cert.On_clear_of_guard.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v129) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def holds_KernelIdeal_near_reference_pre_shared_grid [hKernelIdeal : Cert.KernelIdeal.Facts] [hPre_shared_grid : Cert.Pre_shared_grid.Facts] [hPost_near_reference : Cert.Post_near_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_shared_grid m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ (Cert.Post_near_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v8))) = (fun _ => 1#1))

def Claim : Prop :=
  ∃ (hKernel : Cert.Kernel.Facts) (hKernelIdeal : Cert.KernelIdeal.Facts) (hReferenceIdeal : Cert.ReferenceIdeal.Facts) (hPre_shared_grid : Cert.Pre_shared_grid.Facts) (hPost_near_reference : Cert.Post_near_reference.Facts) (hOn_clear_of_guard : Cert.On_clear_of_guard.Facts),
    quiescent_Kernel (hKernel := hKernel)
    ∧ quiescent_KernelIdeal (hKernelIdeal := hKernelIdeal)
    ∧ quiescent_KernelIdeal_pre_shared_grid (hKernelIdeal := hKernelIdeal) (hPre_shared_grid := hPre_shared_grid)
    ∧ quiescent_ReferenceIdeal (hReferenceIdeal := hReferenceIdeal)
    ∧ quiescent_ReferenceIdeal_pre_shared_grid (hReferenceIdeal := hReferenceIdeal) (hPre_shared_grid := hPre_shared_grid)
    ∧ preserves_Kernel_KernelIdeal
    ∧ algebraic_KernelIdeal_ReferenceIdeal_on_clear_of_guard_pre_shared_grid (hKernelIdeal := hKernelIdeal) (hReferenceIdeal := hReferenceIdeal) (hPre_shared_grid := hPre_shared_grid) (hOn_clear_of_guard := hOn_clear_of_guard)
    ∧ holds_KernelIdeal_near_reference_pre_shared_grid (hKernelIdeal := hKernelIdeal) (hPre_shared_grid := hPre_shared_grid) (hPost_near_reference := hPost_near_reference)
-- ==== On_clear_of_guard.lean ====
abbrev S2x32x28x28 : Shape := ⟨4, ![2, 32, 28, 28]⟩
abbrev S32x32x3x3x3 : Shape := ⟨5, ![32, 32, 3, 3, 3]⟩
abbrev S_ : Shape := ⟨0, ![]⟩
abbrev S2x32x30x30 : Shape := ⟨4, ![2, 32, 30, 30]⟩
abbrev S1x1x1x1x1 : Shape := ⟨5, ![1, 1, 1, 1, 1]⟩
abbrev S1x1x1x1 : Shape := ⟨4, ![1, 1, 1, 1]⟩
abbrev S2x28x28 : Shape := ⟨3, ![2, 28, 28]⟩

class Facts : Prop where
  pads_S2x32x28x28_S2x32x30x30_000_000_110_110 : S2x32x28x28.Pads (![0, 0, 1, 1] : Fin 4 → Nat) ![0, 0, 1, 1] ![0, 0, 0, 0] S2x32x30x30
  h_S_ : 0 < S_.numel
  slices_S32x32x3x3x3_S1x1x1x1x1_0_0_0_0_1 : S32x32x3x3x3.Slices ![0, 0, 0, 0, 1] S1x1x1x1x1
  shapeCasts_S1x1x1x1x1_S1x1x1x1 : S1x1x1x1x1.ShapeCasts S1x1x1x1
  bcast_S1x1x1x1_S2x32x30x30_0_1_2_3 : S1x1x1x1.BroadcastsInDim S2x32x30x30 (![0, 1, 2, 3] : Fin 4 → Fin S2x32x30x30.rank)
  bcast_S_S2x32x30x30 : S_.BroadcastsInDim S2x32x30x30 (![] : Fin 0 → Fin S2x32x30x30.rank)
  slices_S32x32x3x3x3_S1x1x1x1x1_0_0_0_0_2 : S32x32x3x3x3.Slices ![0, 0, 0, 0, 2] S1x1x1x1x1
  bcast_S_S2x32x28x28 : S_.BroadcastsInDim S2x32x28x28 (![] : Fin 0 → Fin S2x32x28x28.rank)
  slices_S2x32x30x30_S2x32x28x28_0_0_0_0 : S2x32x30x30.Slices ![0, 0, 0, 0] S2x32x28x28
  slices_S2x32x30x30_S2x32x28x28_0_0_0_1 : S2x32x30x30.Slices ![0, 0, 0, 1] S2x32x28x28
  slices_S2x32x30x30_S2x32x28x28_0_0_0_2 : S2x32x30x30.Slices ![0, 0, 0, 2] S2x32x28x28
  slices_S2x32x30x30_S2x32x28x28_0_0_1_0 : S2x32x30x30.Slices ![0, 0, 1, 0] S2x32x28x28
  slices_S2x32x30x30_S2x32x28x28_0_0_1_1 : S2x32x30x30.Slices ![0, 0, 1, 1] S2x32x28x28
  slices_S2x32x30x30_S2x32x28x28_0_0_1_2 : S2x32x30x30.Slices ![0, 0, 1, 2] S2x32x28x28
  slices_S2x32x30x30_S2x32x28x28_0_0_2_0 : S2x32x30x30.Slices ![0, 0, 2, 0] S2x32x28x28
  slices_S2x32x30x30_S2x32x28x28_0_0_2_1 : S2x32x30x30.Slices ![0, 0, 2, 1] S2x32x28x28
  slices_S2x32x30x30_S2x32x28x28_0_0_2_2 : S2x32x30x30.Slices ![0, 0, 2, 2] S2x32x28x28
  reducesTo_S2x32x28x28_S2x28x28_d1 : S2x32x28x28.ReducesTo [1] S2x28x28
  bcast_S_S2x28x28 : S_.BroadcastsInDim S2x28x28 (![] : Fin 0 → Fin S2x28x28.rank)
  bcast_S2x28x28_S2x32x28x28_0_2_3 : S2x28x28.BroadcastsInDim S2x32x28x28 (![0, 2, 3] : Fin 3 → Fin S2x32x28x28.rank)

variable [Facts]

def fn_part2 {F : FTy → Type} [FloatOps F] (main_v40 : FVec F S2x28x28 .f32) : IVec S2x32x28x28 1 :=
  let main_cst_6 : FVec F S_ .f32 := constant S_ .f32 0x00000000#32
  let main_v41 : FVec F S2x28x28 .f32 := broadcastInDim S2x28x28 ![] bcast_S_S2x28x28 main_cst_6
  let main_v42 : IVec S2x28x28 1 := cmpf .oeq main_v40 main_v41
  let main_v43 : IVec S2x32x28x28 1 := broadcastInDim S2x32x28x28 ![0, 2, 3] bcast_S2x28x28_S2x32x28x28_0_2_3 main_v42
  main_v43

def fn_part1 {F : FTy → Type} [FloatOps F] (main_v17 : IVec S2x32x30x30 1) (main_v18 : FVec F S2x32x30x30 .f32) (main_cst_3 : FVec F S_ .f32) : IVec S2x32x28x28 1 :=
  let main_v19 : FVec F S2x32x30x30 .f32 := broadcastInDim S2x32x30x30 ![] bcast_S_S2x32x30x30 main_cst_3
  let main_v20 : FVec F S2x32x30x30 .f32 := select main_v17 main_v18 main_v19
  let main_cst_4 : FVec F S_ .f32 := constant S_ .f32 0x00000000#32
  let main_v21 : FVec F S2x32x28x28 .f32 := broadcastInDim S2x32x28x28 ![] bcast_S_S2x32x28x28 main_cst_4
  let main_v22 : FVec F S2x32x28x28 .f32 := (extractStridedSlice S2x32x28x28 ![0, 0, 0, 0] · slices_S2x32x30x30_S2x32x28x28_0_0_0_0) main_v20
  let main_v23 : FVec F S2x32x28x28 .f32 := addf main_v21 main_v22
  let main_v24 : FVec F S2x32x28x28 .f32 := (extractStridedSlice S2x32x28x28 ![0, 0, 0, 1] · slices_S2x32x30x30_S2x32x28x28_0_0_0_1) main_v20
  let main_v25 : FVec F S2x32x28x28 .f32 := addf main_v23 main_v24
  let main_v26 : FVec F S2x32x28x28 .f32 := (extractStridedSlice S2x32x28x28 ![0, 0, 0, 2] · slices_S2x32x30x30_S2x32x28x28_0_0_0_2) main_v20
  let main_v27 : FVec F S2x32x28x28 .f32 := addf main_v25 main_v26
  let main_v28 : FVec F S2x32x28x28 .f32 := (extractStridedSlice S2x32x28x28 ![0, 0, 1, 0] · slices_S2x32x30x30_S2x32x28x28_0_0_1_0) main_v20
  let main_v29 : FVec F S2x32x28x28 .f32 := addf main_v27 main_v28
  let main_v30 : FVec F S2x32x28x28 .f32 := (extractStridedSlice S2x32x28x28 ![0, 0, 1, 1] · slices_S2x32x30x30_S2x32x28x28_0_0_1_1) main_v20
  let main_v31 : FVec F S2x32x28x28 .f32 := addf main_v29 main_v30
  let main_v32 : FVec F S2x32x28x28 .f32 := (extractStridedSlice S2x32x28x28 ![0, 0, 1, 2] · slices_S2x32x30x30_S2x32x28x28_0_0_1_2) main_v20
  let main_v33 : FVec F S2x32x28x28 .f32 := addf main_v31 main_v32
  let main_v34 : FVec F S2x32x28x28 .f32 := (extractStridedSlice S2x32x28x28 ![0, 0, 2, 0] · slices_S2x32x30x30_S2x32x28x28_0_0_2_0) main_v20
  let main_v35 : FVec F S2x32x28x28 .f32 := addf main_v33 main_v34
  let main_v36 : FVec F S2x32x28x28 .f32 := (extractStridedSlice S2x32x28x28 ![0, 0, 2, 1] · slices_S2x32x30x30_S2x32x28x28_0_0_2_1) main_v20
  let main_v37 : FVec F S2x32x28x28 .f32 := addf main_v35 main_v36
  let main_v38 : FVec F S2x32x28x28 .f32 := (extractStridedSlice S2x32x28x28 ![0, 0, 2, 2] · slices_S2x32x30x30_S2x32x28x28_0_0_2_2) main_v20
  let main_v39 : FVec F S2x32x28x28 .f32 := addf main_v37 main_v38
  let main_cst_5 : FVec F S_ .f32 := constant S_ .f32 0x00000000#32
  let main_v40 : FVec F S2x28x28 .f32 := (fun x v => Host.reduceAdd x v reducesTo_S2x32x28x28_S2x28x28_d1 h_S_) main_v39 main_cst_5
  fn_part2 (F := F) main_v40

def fn {F : FTy → Type} [FloatOps F] (main_arg0 : FVec F S2x32x28x28 .f32) (main_arg1 : FVec F S32x32x3x3x3 .f32) (main_arg2 : FVec F S32x32x3x3x3 .f32) : IVec S2x32x28x28 1 :=
  let main_cst : FVec F S_ .f32 := constant S_ .f32 0x00000000#32
  let main_v0 : FVec F S2x32x30x30 .f32 := (fun x v => pad S2x32x30x30 ![0, 0, 1, 1] ![0, 0, 1, 1] ![0, 0, 0, 0] x v pads_S2x32x28x28_S2x32x30x30_000_000_110_110 h_S_) main_arg0 main_cst
  let main_v1 : FVec F S1x1x1x1x1 .f32 := (extractStridedSlice S1x1x1x1x1 ![0, 0, 0, 0, 1] · slices_S32x32x3x3x3_S1x1x1x1x1_0_0_0_0_1) main_arg1
  let main_v2 : FVec F S1x1x1x1 .f32 := shapeCast S1x1x1x1 main_v1 shapeCasts_S1x1x1x1x1_S1x1x1x1
  let main_v3 : FVec F S2x32x30x30 .f32 := broadcastInDim S2x32x30x30 ![0, 1, 2, 3] bcast_S1x1x1x1_S2x32x30x30_0_1_2_3 main_v2
  let main_cst_0 : FVec F S_ .f32 := constant S_ .f32 0x358637BD#32
  let main_v4 : FVec F S2x32x30x30 .f32 := broadcastInDim S2x32x30x30 ![] bcast_S_S2x32x30x30 main_cst_0
  let main_v5 : FVec F S2x32x30x30 .f32 := addf main_v3 main_v4
  let main_v6 : IVec S2x32x30x30 1 := cmpf .oge main_v0 main_v3
  let main_v7 : IVec S2x32x30x30 1 := cmpf .olt main_v0 main_v5
  let main_v8 : IVec S2x32x30x30 1 := andi main_v6 main_v7
  let main_v9 : FVec F S1x1x1x1x1 .f32 := (extractStridedSlice S1x1x1x1x1 ![0, 0, 0, 0, 2] · slices_S32x32x3x3x3_S1x1x1x1x1_0_0_0_0_2) main_arg1
  let main_v10 : FVec F S1x1x1x1 .f32 := shapeCast S1x1x1x1 main_v9 shapeCasts_S1x1x1x1x1_S1x1x1x1
  let main_v11 : FVec F S2x32x30x30 .f32 := broadcastInDim S2x32x30x30 ![0, 1, 2, 3] bcast_S1x1x1x1_S2x32x30x30_0_1_2_3 main_v10
  let main_cst_1 : FVec F S_ .f32 := constant S_ .f32 0x358637BD#32
  let main_v12 : FVec F S2x32x30x30 .f32 := broadcastInDim S2x32x30x30 ![] bcast_S_S2x32x30x30 main_cst_1
  let main_v13 : FVec F S2x32x30x30 .f32 := addf main_v11 main_v12
  let main_v14 : IVec S2x32x30x30 1 := cmpf .oge main_v0 main_v11
  let main_v15 : IVec S2x32x30x30 1 := cmpf .olt main_v0 main_v13
  let main_v16 : IVec S2x32x30x30 1 := andi main_v14 main_v15
  let main_v17 : IVec S2x32x30x30 1 := ori main_v8 main_v16
  let main_cst_2 : FVec F S_ .f32 := constant S_ .f32 0x3F800000#32
  let main_v18 : FVec F S2x32x30x30 .f32 := broadcastInDim S2x32x30x30 ![] bcast_S_S2x32x30x30 main_cst_2
  let main_cst_3 : FVec F S_ .f32 := constant S_ .f32 0x00000000#32
  fn_part1 (F := F) main_v17 main_v18 main_cst_3
-- ==== Post_near_reference.lean ====
abbrev S2x32x28x28 : Shape := ⟨4, ![2, 32, 28, 28]⟩
abbrev S32x32x3x3x3 : Shape := ⟨5, ![32, 32, 3, 3, 3]⟩
abbrev S32x288x3 : Shape := ⟨3, ![32, 288, 3]⟩
abbrev S32x288x1 : Shape := ⟨3, ![32, 288, 1]⟩
abbrev S32x288 : Shape := ⟨2, ![32, 288]⟩
abbrev S_ : Shape := ⟨0, ![]⟩
abbrev S32 : Shape := ⟨1, ![32]⟩
abbrev S2x32x30x30 : Shape := ⟨4, ![2, 32, 30, 30]⟩
abbrev S2x32x1x28x28 : Shape := ⟨5, ![2, 32, 1, 28, 28]⟩
abbrev S2x32x9x28x28 : Shape := ⟨5, ![2, 32, 9, 28, 28]⟩
abbrev S2x288x784 : Shape := ⟨3, ![2, 288, 784]⟩
abbrev S32x288x3x1 : Shape := ⟨4, ![32, 288, 3, 1]⟩
abbrev S1 : Shape := ⟨1, ![1]⟩
abbrev S1x1x1x1 : Shape := ⟨4, ![1, 1, 1, 1]⟩
abbrev S2x1x288x784 : Shape := ⟨4, ![2, 1, 288, 784]⟩
abbrev S2x32x288x784 : Shape := ⟨4, ![2, 32, 288, 784]⟩
abbrev S1x32x288x1 : Shape := ⟨4, ![1, 32, 288, 1]⟩
abbrev S2x32x784 : Shape := ⟨3, ![2, 32, 784]⟩
abbrev S1x32x1x1 : Shape := ⟨4, ![1, 32, 1, 1]⟩

class Facts : Prop where
  shapeCasts_S32x32x3x3x3_S32x288x3 : S32x32x3x3x3.ShapeCasts S32x288x3
  slices_S32x288x3_S32x288x1_0_0_1 : S32x288x3.Slices ![0, 0, 1] S32x288x1
  shapeCasts_S32x288x1_S32x288 : S32x288x1.ShapeCasts S32x288
  slices_S32x288x3_S32x288x1_0_0_0 : S32x288x3.Slices ![0, 0, 0] S32x288x1
  bcast_S_S32x288 : S_.BroadcastsInDim S32x288 (![] : Fin 0 → Fin S32x288.rank)
  slices_S32x288x3_S32x288x1_0_0_2 : S32x288x3.Slices ![0, 0, 2] S32x288x1
  reducesTo_S32x288_S32_d1 : S32x288.ReducesTo [1] S32
  h_S_ : 0 < S_.numel
  pads_S2x32x28x28_S2x32x30x30_000_000_110_110 : S2x32x28x28.Pads (![0, 0, 1, 1] : Fin 4 → Nat) ![0, 0, 1, 1] ![0, 0, 0, 0] S2x32x30x30
  slices_S2x32x30x30_S2x32x28x28_0_0_0_0 : S2x32x30x30.Slices ![0, 0, 0, 0] S2x32x28x28
  slices_S2x32x30x30_S2x32x28x28_0_0_0_1 : S2x32x30x30.Slices ![0, 0, 0, 1] S2x32x28x28
  slices_S2x32x30x30_S2x32x28x28_0_0_0_2 : S2x32x30x30.Slices ![0, 0, 0, 2] S2x32x28x28
  slices_S2x32x30x30_S2x32x28x28_0_0_1_0 : S2x32x30x30.Slices ![0, 0, 1, 0] S2x32x28x28
  slices_S2x32x30x30_S2x32x28x28_0_0_1_1 : S2x32x30x30.Slices ![0, 0, 1, 1] S2x32x28x28
  slices_S2x32x30x30_S2x32x28x28_0_0_1_2 : S2x32x30x30.Slices ![0, 0, 1, 2] S2x32x28x28
  slices_S2x32x30x30_S2x32x28x28_0_0_2_0 : S2x32x30x30.Slices ![0, 0, 2, 0] S2x32x28x28
  slices_S2x32x30x30_S2x32x28x28_0_0_2_1 : S2x32x30x30.Slices ![0, 0, 2, 1] S2x32x28x28
  slices_S2x32x30x30_S2x32x28x28_0_0_2_2 : S2x32x30x30.Slices ![0, 0, 2, 2] S2x32x28x28
  bcast_S2x32x28x28_S2x32x1x28x28_0_1_3_4 : S2x32x28x28.BroadcastsInDim S2x32x1x28x28 (![0, 1, 3, 4] : Fin 4 → Fin S2x32x1x28x28.rank)
  concatenates_S2x32x1x28x28_S2x32x1x28x28_S2x32x1x28x28_S2x32x1x28x28_S2x32x1x28x28_S2x32x1x28x28_S2x32x1x28x28_S2x32x1x28x28_S2x32x1x28x28_S2x32x9x28x28_d2 : Shape.Concatenates [S2x32x1x28x28, S2x32x1x28x28, S2x32x1x28x28, S2x32x1x28x28, S2x32x1x28x28, S2x32x1x28x28, S2x32x1x28x28, S2x32x1x28x28, S2x32x1x28x28] S2x32x9x28x28 2
  shapeCasts_S2x32x9x28x28_S2x288x784 : S2x32x9x28x28.ShapeCasts S2x288x784
  bcast_S_S32x288x3 : S_.BroadcastsInDim S32x288x3 (![] : Fin 0 → Fin S32x288x3.rank)
  shapeCasts_S32x288x3_S32x288x3x1 : S32x288x3.ShapeCasts S32x288x3x1
  bcast_S_S32x288x3x1 : S_.BroadcastsInDim S32x288x3x1 (![] : Fin 0 → Fin S32x288x3x1.rank)
  bcast_S1_S1x1x1x1_3 : S1.BroadcastsInDim S1x1x1x1 (![3] : Fin 1 → Fin S1x1x1x1.rank)
  bcast_S1x1x1x1_S32x288x3x1_0_1_2_3 : S1x1x1x1.BroadcastsInDim S32x288x3x1 (![0, 1, 2, 3] : Fin 4 → Fin S32x288x3x1.rank)
  reducesTo_S32x288x3x1_S32x288x3_d3 : S32x288x3x1.ReducesTo [3] S32x288x3
  bcast_S2x288x784_S2x1x288x784_0_2_3 : S2x288x784.BroadcastsInDim S2x1x288x784 (![0, 2, 3] : Fin 3 → Fin S2x1x288x784.rank)
  bcast_S_S2x32x288x784 : S_.BroadcastsInDim S2x32x288x784 (![] : Fin 0 → Fin S2x32x288x784.rank)
  bcast_S32x288_S1x32x288x1_1_2 : S32x288.BroadcastsInDim S1x32x288x1 (![1, 2] : Fin 2 → Fin S1x32x288x1.rank)
  bcast_S2x1x288x784_S2x32x288x784_0_1_2_3 : S2x1x288x784.BroadcastsInDim S2x32x288x784 (![0, 1, 2, 3] : Fin 4 → Fin S2x32x288x784.rank)
  bcast_S1x32x288x1_S2x32x288x784_0_1_2_3 : S1x32x288x1.BroadcastsInDim S2x32x288x784 (![0, 1, 2, 3] : Fin 4 → Fin S2x32x288x784.rank)
  natLt_1_32 : 1 < 32
  bcast_S_S1x32x288x1 : S_.BroadcastsInDim S1x32x288x1 (![] : Fin 0 → Fin S1x32x288x1.rank)
  reducesTo_S2x32x288x784_S2x32x784_d2 : S2x32x288x784.ReducesTo [2] S2x32x784
  shapeCasts_S2x32x784_S2x32x28x28 : S2x32x784.ShapeCasts S2x32x28x28
  bcast_S32_S1x32x1x1_1 : S32.BroadcastsInDim S1x32x1x1 (![1] : Fin 1 → Fin S1x32x1x1.rank)
  bcast_S1x32x1x1_S2x32x28x28_0_1_2_3 : S1x32x1x1.BroadcastsInDim S2x32x28x28 (![0, 1, 2, 3] : Fin 4 → Fin S2x32x28x28.rank)
  gather_S32x288x3_S32x288x3x1_S32x288x3_n_2_01_01_2_3_111_wf : GatherDims.WF S32x288x3 S32x288x3x1 S32x288x3 [] [2] [0, 1] [2] [0, 1] 3 ![1, 1, 1]

variable [Facts]

variable {F : FTy → Type} [FloatOps F]
def comparator_f32_i32_d2 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S32x288x3_S32x288x3x1_S32x288x3_n_2_01_01_2_3_111 : GatherDims S32x288x3 S32x288x3x1 S32x288x3 where
  offsetDims := []
  collapsedSliceDims := [2]
  operandBatchingDims := [0, 1]
  startIndicesBatchingDims := [0, 1]
  startIndexMap := [2]
  indexVectorDim := 3
  sliceSizes := ![1, 1, 1]
  wf := gather_S32x288x3_S32x288x3x1_S32x288x3_n_2_01_01_2_3_111_wf

def fn_pad {F : FTy → Type} [FloatOps F] (arg0 : FVec F S2x32x28x28 .f32) (arg1 : IVec S_ 32) : FVec F S2x32x30x30 .f32 :=
  let v0 : FVec F S_ .f32 := sitofp .f32 arg1
  let v1 : FVec F S2x32x30x30 .f32 := (fun x v => pad S2x32x30x30 ![0, 0, 1, 1] ![0, 0, 1, 1] ![0, 0, 0, 0] x v pads_S2x32x28x28_S2x32x30x30_000_000_110_110 h_S_) arg0 v0
  v1

def fn_argsort {F : FTy → Type} [FloatOps F] (arg0 : FVec F S32x288x3 .f32) : IVec S32x288x3 32 :=
  let v0 : IVec S32x288x3 32 := iotaInDim S32x288x3 32 2
  let v1_0 : FVec F S32x288x3 .f32 := (fun x y => (Host.sort2 S32x288x3 2 comparator_f32_i32_d2 x y).1) arg0 v0
  let v1_1 : IVec S32x288x3 32 := (fun x y => (Host.sort2 S32x288x3 2 comparator_f32_i32_d2 x y).2) arg0 v0
  v1_1

def fn_take_along_axis {F : FTy → Type} [FloatOps F] (arg0 : FVec F S32x288x3 .f32) (arg1 : IVec S32x288x3 32) : FVec F S32x288x3 .f32 :=
  let c : IVec S_ 32 := constantI S_ 32 0#32
  let v0 : IVec S32x288x3 32 := broadcastInDim S32x288x3 ![] bcast_S_S32x288x3 c
  let v1 : IVec S32x288x3 1 := cmpi .slt arg1 v0
  let c_0 : IVec S_ 32 := constantI S_ 32 3#32
  let v2 : IVec S32x288x3 32 := broadcastInDim S32x288x3 ![] bcast_S_S32x288x3 c_0
  let v3 : IVec S32x288x3 32 := addi arg1 v2
  let v4 : IVec S32x288x3 32 := select v1 v3 arg1
  let v5 : IVec S32x288x3x1 32 := shapeCast S32x288x3x1 v4 shapeCasts_S32x288x3_S32x288x3x1
  let c_1 : IVec S1 32 := constantI S1 32 2#32
  let c_2 : IVec S_ 32 := constantI S_ 32 0#32
  let v6 : IVec S32x288x3x1 32 := broadcastInDim S32x288x3x1 ![] bcast_S_S32x288x3x1 c_2
  let v7 : IVec S32x288x3x1 1 := cmpi .sge v5 v6
  let v8 : IVec S1x1x1x1 32 := broadcastInDim S1x1x1x1 ![3] bcast_S1_S1x1x1x1_3 c_1
  let v9 : IVec S32x288x3x1 32 := broadcastInDim S32x288x3x1 ![0, 1, 2, 3] bcast_S1x1x1x1_S32x288x3x1_0_1_2_3 v8
  let v10 : IVec S32x288x3x1 1 := cmpi .sle v5 v9
  let v11 : IVec S32x288x3x1 1 := andi v7 v10
  let c_3 : IVec S_ 1 := constantI S_ 1 1#1
  let v12 : IVec S32x288x3 1 := (fun x v => Host.reduce IntOp.andi x v reducesTo_S32x288x3x1_S32x288x3_d3 h_S_) v11 c_3
  let v13 : FVec F S32x288x3 .f32 := (fun x i => Host.gather gather_S32x288x3_S32x288x3x1_S32x288x3_n_2_01_01_2_3_111 x i) arg0 v5
  let cst : FVec F S_ .f32 := constant S_ .f32 0x7FC00000#32
  let v14 : FVec F S32x288x3 .f32 := broadcastInDim S32x288x3 ![] bcast_S_S32x288x3 cst
  let v15 : FVec F S32x288x3 .f32 := select v12 v13 v14
  v15

def fn_clip {F : FTy → Type} [FloatOps F] (arg0 : IVec S2x32x288x784 32) (arg1 : IVec S_ 32) (arg2 : IVec S_ 32) : IVec S2x32x288x784 32 :=
  let v0 : IVec S_ 32 := id arg1
  let v1 : IVec S2x32x288x784 32 := broadcastInDim S2x32x288x784 ![] bcast_S_S2x32x288x784 v0
  let v2 : IVec S2x32x288x784 32 := maxsi v1 arg0
  let v3 : IVec S_ 32 := id arg2
  let v4 : IVec S2x32x288x784 32 := broadcastInDim S2x32x288x784 ![] bcast_S_S2x32x288x784 v3
  let v5 : IVec S2x32x288x784 32 := minsi v4 v2
  v5

def fn_clip_0 {F : FTy → Type} [FloatOps F] (arg0 : FVec F S2x32x288x784 .f32) (arg1 : FVec F S_ .f32) (arg2 : FVec F S_ .f32) : FVec F S2x32x288x784 .f32 :=
  let v0 : FVec F S_ .f32 := id arg1
  let v1 : FVec F S2x32x288x784 .f32 := broadcastInDim S2x32x288x784 ![] bcast_S_S2x32x288x784 v0
  let v2 : FVec F S2x32x288x784 .f32 := maximumf v1 arg0
  let v3 : FVec F S_ .f32 := id arg2
  let v4 : FVec F S2x32x288x784 .f32 := broadcastInDim S2x32x288x784 ![] bcast_S_S2x32x288x784 v3
  let v5 : FVec F S2x32x288x784 .f32 := minimumf v4 v2
  v5

def fn_where {F : FTy → Type} [FloatOps F] (arg0 : IVec S1x32x288x1 1) (arg1 : FVec F S1x32x288x1 .f32) (arg2 : FVec F S2x32x288x784 .f32) : FVec F S2x32x288x784 .f32 :=
  let v0 : IVec S2x32x288x784 1 := broadcastInDim S2x32x288x784 ![0, 1, 2, 3] bcast_S1x32x288x1_S2x32x288x784_0_1_2_3 arg0
  let v1 : FVec F S2x32x288x784 .f32 := broadcastInDim S2x32x288x784 ![0, 1, 2, 3] bcast_S1x32x288x1_S2x32x288x784_0_1_2_3 arg1
  let v2 : FVec F S2x32x288x784 .f32 := select v0 v1 arg2
  v2

def fn_where_1 {F : FTy → Type} [FloatOps F] (arg0 : IVec S2x32x288x784 1) (arg1 : FVec F S2x32x288x784 .f32) (arg2 : FVec F S2x32x288x784 .f32) : FVec F S2x32x288x784 .f32 :=
  let v0 : FVec F S2x32x288x784 .f32 := select arg0 arg1 arg2
  v0

def fn_where_2 {F : FTy → Type} [FloatOps F] (arg0 : IVec S2x32x288x784 1) (arg1 : FVec F S1x32x288x1 .f32) (arg2 : FVec F S2x32x288x784 .f32) : FVec F S2x32x288x784 .f32 :=
  let v0 : FVec F S2x32x288x784 .f32 := broadcastInDim S2x32x288x784 ![0, 1, 2, 3] bcast_S1x32x288x1_S2x32x288x784_0_1_2_3 arg1
  let v1 : FVec F S2x32x288x784 .f32 := select arg0 v0 arg2
  v1

def fn_part7 {F : FTy → Type} [FloatOps F] (main_arg3 : FVec F S2x32x28x28 .f32) (main_v35 : FVec F S32 .f32) (main_v61 : FVec F S32x288x3 .f32) (main_v62 : FVec F S2x1x288x784 .f32) (main_v143 : FVec F S2x32x288x784 .f32) (main_v146 : FVec F S1x32x288x1 .f32) (main_v149 : FVec F S1x32x288x1 .f32) : IVec S2x32x28x28 1 :=
  let main_v150 : FVec F S2x32x288x784 .f32 := broadcastInDim S2x32x288x784 ![0, 1, 2, 3] bcast_S2x1x288x784_S2x32x288x784_0_1_2_3 main_v62
  let main_v151 : FVec F S2x32x288x784 .f32 := broadcastInDim S2x32x288x784 ![0, 1, 2, 3] bcast_S1x32x288x1_S2x32x288x784_0_1_2_3 main_v146
  let main_v152 : IVec S2x32x288x784 1 := cmpf .ole main_v150 main_v151
  let main_v153 : FVec F S32x288x1 .f32 := (extractStridedSlice S32x288x1 ![0, 0, 0] · slices_S32x288x3_S32x288x1_0_0_0) main_v61
  let main_v154 : FVec F S32x288 .f32 := shapeCast S32x288 main_v153 shapeCasts_S32x288x1_S32x288
  let main_v155 : FVec F S1x32x288x1 .f32 := broadcastInDim S1x32x288x1 ![1, 2] bcast_S32x288_S1x32x288x1_1_2 main_v154
  let main_v156 : FVec F S2x32x288x784 .f32 := fn_where_2 (F := F) main_v152 main_v155 main_v143
  let main_v157 : FVec F S2x32x288x784 .f32 := broadcastInDim S2x32x288x784 ![0, 1, 2, 3] bcast_S2x1x288x784_S2x32x288x784_0_1_2_3 main_v62
  let main_v158 : FVec F S2x32x288x784 .f32 := broadcastInDim S2x32x288x784 ![0, 1, 2, 3] bcast_S1x32x288x1_S2x32x288x784_0_1_2_3 main_v149
  let main_v159 : IVec S2x32x288x784 1 := cmpf .oge main_v157 main_v158
  let main_v160 : FVec F S32x288x1 .f32 := (extractStridedSlice S32x288x1 ![0, 0, 2] · slices_S32x288x3_S32x288x1_0_0_2) main_v61
  let main_v161 : FVec F S32x288 .f32 := shapeCast S32x288 main_v160 shapeCasts_S32x288x1_S32x288
  let main_v162 : FVec F S1x32x288x1 .f32 := broadcastInDim S1x32x288x1 ![1, 2] bcast_S32x288_S1x32x288x1_1_2 main_v161
  let main_v163 : FVec F S2x32x288x784 .f32 := fn_where_2 (F := F) main_v159 main_v162 main_v156
  let main_cst_16 : FVec F S_ .f32 := constant S_ .f32 0x00000000#32
  let main_v164 : FVec F S2x32x784 .f32 := (fun x v => Host.reduceAdd x v reducesTo_S2x32x288x784_S2x32x784_d2 h_S_) main_v163 main_cst_16
  let main_v165 : FVec F S2x32x28x28 .f32 := shapeCast S2x32x28x28 main_v164 shapeCasts_S2x32x784_S2x32x28x28
  let main_v166 : FVec F S2x32x28x28 .f32 := subf main_arg3 main_v165
  let main_v167 : FVec F S2x32x28x28 .f32 := Host.absf main_v166
  let main_v168 : FVec F S1x32x1x1 .f32 := broadcastInDim S1x32x1x1 ![1] bcast_S32_S1x32x1x1_1 main_v35
  let main_v169 : FVec F S2x32x28x28 .f32 := broadcastInDim S2x32x28x28 ![0, 1, 2, 3] bcast_S1x32x1x1_S2x32x28x28_0_1_2_3 main_v168
  let main_v170 : IVec S2x32x28x28 1 := cmpf .ole main_v167 main_v169
  main_v170

def fn_part6 {F : FTy → Type} [FloatOps F] (main_arg3 : FVec F S2x32x28x28 .f32) (main_v35 : FVec F S32 .f32) (main_v60 : FVec F S32x288x3 .f32) (main_v61 : FVec F S32x288x3 .f32) (main_v62 : FVec F S2x1x288x784 .f32) (main_v80 : IVec S2x32x288x784 32) (main_v112 : FVec F S2x32x288x784 .f32) (main_v115 : FVec F S1x32x288x1 .f32) (main_v118 : FVec F S1x32x288x1 .f32) (main_v121 : FVec F S1x32x288x1 .f32) (main_v124 : FVec F S1x32x288x1 .f32) (main_v127 : FVec F S2x32x288x784 .f32) (main_v128 : FVec F S1x32x288x1 .f32) (main_cst_12 : FVec F S_ .f32) : IVec S2x32x28x28 1 :=
  let main_v129 : FVec F S1x32x288x1 .f32 := broadcastInDim S1x32x288x1 ![] bcast_S_S1x32x288x1 main_cst_12
  let main_v130 : FVec F S1x32x288x1 .f32 := addf main_v128 main_v129
  let main_v131 : FVec F S2x32x288x784 .f32 := broadcastInDim S2x32x288x784 ![0, 1, 2, 3] bcast_S1x32x288x1_S2x32x288x784_0_1_2_3 main_v130
  let main_v132 : FVec F S2x32x288x784 .f32 := Host.divf main_v127 main_v131
  let main_cst_13 : FVec F S_ .f32 := constant S_ .f32 0x00000000#32
  let main_cst_14 : FVec F S_ .f32 := constant S_ .f32 0x3F800000#32
  let main_v133 : FVec F S2x32x288x784 .f32 := fn_clip_0 (F := F) main_v132 main_cst_13 main_cst_14
  let main_v134 : IVec S1x32x288x1 1 := cmpf .oeq main_v115 main_v118
  let main_v135 : FVec F S1x32x288x1 .f32 := subf main_v124 main_v121
  let main_v136 : FVec F S2x32x288x784 .f32 := broadcastInDim S2x32x288x784 ![0, 1, 2, 3] bcast_S1x32x288x1_S2x32x288x784_0_1_2_3 main_v135
  let main_v137 : FVec F S2x32x288x784 .f32 := mulf main_v133 main_v136
  let main_v138 : FVec F S2x32x288x784 .f32 := broadcastInDim S2x32x288x784 ![0, 1, 2, 3] bcast_S1x32x288x1_S2x32x288x784_0_1_2_3 main_v121
  let main_v139 : FVec F S2x32x288x784 .f32 := addf main_v138 main_v137
  let main_v140 : FVec F S2x32x288x784 .f32 := fn_where (F := F) main_v134 main_v121 main_v139
  let main_c_15 : IVec S_ 32 := constantI S_ 32 1#32
  let main_v141 : IVec S2x32x288x784 32 := broadcastInDim S2x32x288x784 ![] bcast_S_S2x32x288x784 main_c_15
  let main_v142 : IVec S2x32x288x784 1 := cmpi .eq main_v80 main_v141
  let main_v143 : FVec F S2x32x288x784 .f32 := fn_where_1 (F := F) main_v142 main_v140 main_v112
  let main_v144 : FVec F S32x288x1 .f32 := (extractStridedSlice S32x288x1 ![0, 0, 0] · slices_S32x288x3_S32x288x1_0_0_0) main_v60
  let main_v145 : FVec F S32x288 .f32 := shapeCast S32x288 main_v144 shapeCasts_S32x288x1_S32x288
  let main_v146 : FVec F S1x32x288x1 .f32 := broadcastInDim S1x32x288x1 ![1, 2] bcast_S32x288_S1x32x288x1_1_2 main_v145
  let main_v147 : FVec F S32x288x1 .f32 := (extractStridedSlice S32x288x1 ![0, 0, 2] · slices_S32x288x3_S32x288x1_0_0_2) main_v60
  let main_v148 : FVec F S32x288 .f32 := shapeCast S32x288 main_v147 shapeCasts_S32x288x1_S32x288
  let main_v149 : FVec F S1x32x288x1 .f32 := broadcastInDim S1x32x288x1 ![1, 2] bcast_S32x288_S1x32x288x1_1_2 main_v148
  fn_part7 (F := F) main_arg3 main_v35 main_v61 main_v62 main_v143 main_v146 main_v149

def fn_part5 {F : FTy → Type} [FloatOps F] (main_arg3 : FVec F S2x32x28x28 .f32) (main_v35 : FVec F S32 .f32) (main_v60 : FVec F S32x288x3 .f32) (main_v61 : FVec F S32x288x3 .f32) (main_v62 : FVec F S2x1x288x784 .f32) (main_v80 : IVec S2x32x288x784 32) (main_v81 : FVec F S2x32x288x784 .f32) (main_v90 : FVec F S1x32x288x1 .f32) (main_v103 : IVec S1x32x288x1 1) (main_v106 : FVec F S2x32x288x784 .f32) : IVec S2x32x28x28 1 :=
  let main_v107 : FVec F S2x32x288x784 .f32 := broadcastInDim S2x32x288x784 ![0, 1, 2, 3] bcast_S1x32x288x1_S2x32x288x784_0_1_2_3 main_v90
  let main_v108 : FVec F S2x32x288x784 .f32 := addf main_v107 main_v106
  let main_v109 : FVec F S2x32x288x784 .f32 := fn_where (F := F) main_v103 main_v90 main_v108
  let main_c_11 : IVec S_ 32 := constantI S_ 32 0#32
  let main_v110 : IVec S2x32x288x784 32 := broadcastInDim S2x32x288x784 ![] bcast_S_S2x32x288x784 main_c_11
  let main_v111 : IVec S2x32x288x784 1 := cmpi .eq main_v80 main_v110
  let main_v112 : FVec F S2x32x288x784 .f32 := fn_where_1 (F := F) main_v111 main_v109 main_v81
  let main_v113 : FVec F S32x288x1 .f32 := (extractStridedSlice S32x288x1 ![0, 0, 1] · slices_S32x288x3_S32x288x1_0_0_1) main_v60
  let main_v114 : FVec F S32x288 .f32 := shapeCast S32x288 main_v113 shapeCasts_S32x288x1_S32x288
  let main_v115 : FVec F S1x32x288x1 .f32 := broadcastInDim S1x32x288x1 ![1, 2] bcast_S32x288_S1x32x288x1_1_2 main_v114
  let main_v116 : FVec F S32x288x1 .f32 := (extractStridedSlice S32x288x1 ![0, 0, 2] · slices_S32x288x3_S32x288x1_0_0_2) main_v60
  let main_v117 : FVec F S32x288 .f32 := shapeCast S32x288 main_v116 shapeCasts_S32x288x1_S32x288
  let main_v118 : FVec F S1x32x288x1 .f32 := broadcastInDim S1x32x288x1 ![1, 2] bcast_S32x288_S1x32x288x1_1_2 main_v117
  let main_v119 : FVec F S32x288x1 .f32 := (extractStridedSlice S32x288x1 ![0, 0, 1] · slices_S32x288x3_S32x288x1_0_0_1) main_v61
  let main_v120 : FVec F S32x288 .f32 := shapeCast S32x288 main_v119 shapeCasts_S32x288x1_S32x288
  let main_v121 : FVec F S1x32x288x1 .f32 := broadcastInDim S1x32x288x1 ![1, 2] bcast_S32x288_S1x32x288x1_1_2 main_v120
  let main_v122 : FVec F S32x288x1 .f32 := (extractStridedSlice S32x288x1 ![0, 0, 2] · slices_S32x288x3_S32x288x1_0_0_2) main_v61
  let main_v123 : FVec F S32x288 .f32 := shapeCast S32x288 main_v122 shapeCasts_S32x288x1_S32x288
  let main_v124 : FVec F S1x32x288x1 .f32 := broadcastInDim S1x32x288x1 ![1, 2] bcast_S32x288_S1x32x288x1_1_2 main_v123
  let main_v125 : FVec F S2x32x288x784 .f32 := broadcastInDim S2x32x288x784 ![0, 1, 2, 3] bcast_S2x1x288x784_S2x32x288x784_0_1_2_3 main_v62
  let main_v126 : FVec F S2x32x288x784 .f32 := broadcastInDim S2x32x288x784 ![0, 1, 2, 3] bcast_S1x32x288x1_S2x32x288x784_0_1_2_3 main_v115
  let main_v127 : FVec F S2x32x288x784 .f32 := subf main_v125 main_v126
  let main_v128 : FVec F S1x32x288x1 .f32 := subf main_v118 main_v115
  let main_cst_12 : FVec F S_ .f32 := constant S_ .f32 0x358637BD#32
  fn_part6 (F := F) main_arg3 main_v35 main_v60 main_v61 main_v62 main_v80 main_v112 main_v115 main_v118 main_v121 main_v124 main_v127 main_v128 main_cst_12

def fn_part4 {F : FTy → Type} [FloatOps F] (main_arg3 : FVec F S2x32x28x28 .f32) (main_v35 : FVec F S32 .f32) (main_v60 : FVec F S32x288x3 .f32) (main_v61 : FVec F S32x288x3 .f32) (main_v62 : FVec F S2x1x288x784 .f32) (main_v80 : IVec S2x32x288x784 32) (main_v81 : FVec F S2x32x288x784 .f32) (main_v84 : FVec F S1x32x288x1 .f32) (main_v85 : FVec F S32x288x1 .f32) : IVec S2x32x28x28 1 :=
  let main_v86 : FVec F S32x288 .f32 := shapeCast S32x288 main_v85 shapeCasts_S32x288x1_S32x288
  let main_v87 : FVec F S1x32x288x1 .f32 := broadcastInDim S1x32x288x1 ![1, 2] bcast_S32x288_S1x32x288x1_1_2 main_v86
  let main_v88 : FVec F S32x288x1 .f32 := (extractStridedSlice S32x288x1 ![0, 0, 0] · slices_S32x288x3_S32x288x1_0_0_0) main_v61
  let main_v89 : FVec F S32x288 .f32 := shapeCast S32x288 main_v88 shapeCasts_S32x288x1_S32x288
  let main_v90 : FVec F S1x32x288x1 .f32 := broadcastInDim S1x32x288x1 ![1, 2] bcast_S32x288_S1x32x288x1_1_2 main_v89
  let main_v91 : FVec F S32x288x1 .f32 := (extractStridedSlice S32x288x1 ![0, 0, 1] · slices_S32x288x3_S32x288x1_0_0_1) main_v61
  let main_v92 : FVec F S32x288 .f32 := shapeCast S32x288 main_v91 shapeCasts_S32x288x1_S32x288
  let main_v93 : FVec F S1x32x288x1 .f32 := broadcastInDim S1x32x288x1 ![1, 2] bcast_S32x288_S1x32x288x1_1_2 main_v92
  let main_v94 : FVec F S2x32x288x784 .f32 := broadcastInDim S2x32x288x784 ![0, 1, 2, 3] bcast_S2x1x288x784_S2x32x288x784_0_1_2_3 main_v62
  let main_v95 : FVec F S2x32x288x784 .f32 := broadcastInDim S2x32x288x784 ![0, 1, 2, 3] bcast_S1x32x288x1_S2x32x288x784_0_1_2_3 main_v84
  let main_v96 : FVec F S2x32x288x784 .f32 := subf main_v94 main_v95
  let main_v97 : FVec F S1x32x288x1 .f32 := subf main_v87 main_v84
  let main_cst_8 : FVec F S_ .f32 := constant S_ .f32 0x358637BD#32
  let main_v98 : FVec F S1x32x288x1 .f32 := broadcastInDim S1x32x288x1 ![] bcast_S_S1x32x288x1 main_cst_8
  let main_v99 : FVec F S1x32x288x1 .f32 := addf main_v97 main_v98
  let main_v100 : FVec F S2x32x288x784 .f32 := broadcastInDim S2x32x288x784 ![0, 1, 2, 3] bcast_S1x32x288x1_S2x32x288x784_0_1_2_3 main_v99
  let main_v101 : FVec F S2x32x288x784 .f32 := Host.divf main_v96 main_v100
  let main_cst_9 : FVec F S_ .f32 := constant S_ .f32 0x00000000#32
  let main_cst_10 : FVec F S_ .f32 := constant S_ .f32 0x3F800000#32
  let main_v102 : FVec F S2x32x288x784 .f32 := fn_clip_0 (F := F) main_v101 main_cst_9 main_cst_10
  let main_v103 : IVec S1x32x288x1 1 := cmpf .oeq main_v84 main_v87
  let main_v104 : FVec F S1x32x288x1 .f32 := subf main_v93 main_v90
  let main_v105 : FVec F S2x32x288x784 .f32 := broadcastInDim S2x32x288x784 ![0, 1, 2, 3] bcast_S1x32x288x1_S2x32x288x784_0_1_2_3 main_v104
  let main_v106 : FVec F S2x32x288x784 .f32 := mulf main_v102 main_v105
  fn_part5 (F := F) main_arg3 main_v35 main_v60 main_v61 main_v62 main_v80 main_v81 main_v90 main_v103 main_v106

def fn_part3 {F : FTy → Type} [FloatOps F] (main_arg3 : FVec F S2x32x28x28 .f32) (main_v35 : FVec F S32 .f32) (main_v60 : FVec F S32x288x3 .f32) (main_v61 : FVec F S32x288x3 .f32) (main_v62 : FVec F S2x1x288x784 .f32) (main_v63 : IVec S2x32x288x784 32) (main_v64 : FVec F S32x288x1 .f32) : IVec S2x32x28x28 1 :=
  let main_v65 : FVec F S32x288 .f32 := shapeCast S32x288 main_v64 shapeCasts_S32x288x1_S32x288
  let main_v66 : FVec F S1x32x288x1 .f32 := broadcastInDim S1x32x288x1 ![1, 2] bcast_S32x288_S1x32x288x1_1_2 main_v65
  let main_v67 : FVec F S2x32x288x784 .f32 := broadcastInDim S2x32x288x784 ![0, 1, 2, 3] bcast_S2x1x288x784_S2x32x288x784_0_1_2_3 main_v62
  let main_v68 : FVec F S2x32x288x784 .f32 := broadcastInDim S2x32x288x784 ![0, 1, 2, 3] bcast_S1x32x288x1_S2x32x288x784_0_1_2_3 main_v66
  let main_v69 : IVec S2x32x288x784 1 := cmpf .oge main_v67 main_v68
  let main_v70 : IVec S2x32x288x784 32 := (extui 32 · natLt_1_32) main_v69
  let main_v71 : IVec S2x32x288x784 32 := addi main_v63 main_v70
  let main_v72 : FVec F S32x288x1 .f32 := (extractStridedSlice S32x288x1 ![0, 0, 2] · slices_S32x288x3_S32x288x1_0_0_2) main_v60
  let main_v73 : FVec F S32x288 .f32 := shapeCast S32x288 main_v72 shapeCasts_S32x288x1_S32x288
  let main_v74 : FVec F S1x32x288x1 .f32 := broadcastInDim S1x32x288x1 ![1, 2] bcast_S32x288_S1x32x288x1_1_2 main_v73
  let main_v75 : FVec F S2x32x288x784 .f32 := broadcastInDim S2x32x288x784 ![0, 1, 2, 3] bcast_S2x1x288x784_S2x32x288x784_0_1_2_3 main_v62
  let main_v76 : FVec F S2x32x288x784 .f32 := broadcastInDim S2x32x288x784 ![0, 1, 2, 3] bcast_S1x32x288x1_S2x32x288x784_0_1_2_3 main_v74
  let main_v77 : IVec S2x32x288x784 1 := cmpf .oge main_v75 main_v76
  let main_v78 : IVec S2x32x288x784 32 := (extui 32 · natLt_1_32) main_v77
  let main_v79 : IVec S2x32x288x784 32 := addi main_v71 main_v78
  let main_c_5 : IVec S_ 32 := constantI S_ 32 0#32
  let main_c_6 : IVec S_ 32 := constantI S_ 32 1#32
  let main_v80 : IVec S2x32x288x784 32 := fn_clip (F := F) main_v79 main_c_5 main_c_6
  let main_cst_7 : FVec F S_ .f32 := constant S_ .f32 0x00000000#32
  let main_v81 : FVec F S2x32x288x784 .f32 := broadcastInDim S2x32x288x784 ![] bcast_S_S2x32x288x784 main_cst_7
  let main_v82 : FVec F S32x288x1 .f32 := (extractStridedSlice S32x288x1 ![0, 0, 0] · slices_S32x288x3_S32x288x1_0_0_0) main_v60
  let main_v83 : FVec F S32x288 .f32 := shapeCast S32x288 main_v82 shapeCasts_S32x288x1_S32x288
  let main_v84 : FVec F S1x32x288x1 .f32 := broadcastInDim S1x32x288x1 ![1, 2] bcast_S32x288_S1x32x288x1_1_2 main_v83
  let main_v85 : FVec F S32x288x1 .f32 := (extractStridedSlice S32x288x1 ![0, 0, 1] · slices_S32x288x3_S32x288x1_0_0_1) main_v60
  fn_part4 (F := F) main_arg3 main_v35 main_v60 main_v61 main_v62 main_v80 main_v81 main_v84 main_v85

def fn_part2 {F : FTy → Type} [FloatOps F] (main_arg1 : FVec F S32x32x3x3x3 .f32) (main_arg2 : FVec F S32x32x3x3x3 .f32) (main_arg3 : FVec F S2x32x28x28 .f32) (main_v35 : FVec F S32 .f32) (main_v36 : FVec F S2x32x30x30 .f32) (main_v37 : FVec F S2x32x28x28 .f32) (main_v38 : FVec F S2x32x28x28 .f32) (main_v39 : FVec F S2x32x28x28 .f32) (main_v40 : FVec F S2x32x28x28 .f32) (main_v41 : FVec F S2x32x28x28 .f32) : IVec S2x32x28x28 1 :=
  let main_v42 : FVec F S2x32x28x28 .f32 := (extractStridedSlice S2x32x28x28 ![0, 0, 1, 2] · slices_S2x32x30x30_S2x32x28x28_0_0_1_2) main_v36
  let main_v43 : FVec F S2x32x28x28 .f32 := (extractStridedSlice S2x32x28x28 ![0, 0, 2, 0] · slices_S2x32x30x30_S2x32x28x28_0_0_2_0) main_v36
  let main_v44 : FVec F S2x32x28x28 .f32 := (extractStridedSlice S2x32x28x28 ![0, 0, 2, 1] · slices_S2x32x30x30_S2x32x28x28_0_0_2_1) main_v36
  let main_v45 : FVec F S2x32x28x28 .f32 := (extractStridedSlice S2x32x28x28 ![0, 0, 2, 2] · slices_S2x32x30x30_S2x32x28x28_0_0_2_2) main_v36
  let main_v46 : FVec F S2x32x1x28x28 .f32 := broadcastInDim S2x32x1x28x28 ![0, 1, 3, 4] bcast_S2x32x28x28_S2x32x1x28x28_0_1_3_4 main_v37
  let main_v47 : FVec F S2x32x1x28x28 .f32 := broadcastInDim S2x32x1x28x28 ![0, 1, 3, 4] bcast_S2x32x28x28_S2x32x1x28x28_0_1_3_4 main_v38
  let main_v48 : FVec F S2x32x1x28x28 .f32 := broadcastInDim S2x32x1x28x28 ![0, 1, 3, 4] bcast_S2x32x28x28_S2x32x1x28x28_0_1_3_4 main_v39
  let main_v49 : FVec F S2x32x1x28x28 .f32 := broadcastInDim S2x32x1x28x28 ![0, 1, 3, 4] bcast_S2x32x28x28_S2x32x1x28x28_0_1_3_4 main_v40
  let main_v50 : FVec F S2x32x1x28x28 .f32 := broadcastInDim S2x32x1x28x28 ![0, 1, 3, 4] bcast_S2x32x28x28_S2x32x1x28x28_0_1_3_4 main_v41
  let main_v51 : FVec F S2x32x1x28x28 .f32 := broadcastInDim S2x32x1x28x28 ![0, 1, 3, 4] bcast_S2x32x28x28_S2x32x1x28x28_0_1_3_4 main_v42
  let main_v52 : FVec F S2x32x1x28x28 .f32 := broadcastInDim S2x32x1x28x28 ![0, 1, 3, 4] bcast_S2x32x28x28_S2x32x1x28x28_0_1_3_4 main_v43
  let main_v53 : FVec F S2x32x1x28x28 .f32 := broadcastInDim S2x32x1x28x28 ![0, 1, 3, 4] bcast_S2x32x28x28_S2x32x1x28x28_0_1_3_4 main_v44
  let main_v54 : FVec F S2x32x1x28x28 .f32 := broadcastInDim S2x32x1x28x28 ![0, 1, 3, 4] bcast_S2x32x28x28_S2x32x1x28x28_0_1_3_4 main_v45
  let main_v55 : FVec F S2x32x9x28x28 .f32 := concatenate S2x32x9x28x28 2 [⟨S2x32x1x28x28, main_v46⟩, ⟨S2x32x1x28x28, main_v47⟩, ⟨S2x32x1x28x28, main_v48⟩, ⟨S2x32x1x28x28, main_v49⟩, ⟨S2x32x1x28x28, main_v50⟩, ⟨S2x32x1x28x28, main_v51⟩, ⟨S2x32x1x28x28, main_v52⟩, ⟨S2x32x1x28x28, main_v53⟩, ⟨S2x32x1x28x28, main_v54⟩] concatenates_S2x32x1x28x28_S2x32x1x28x28_S2x32x1x28x28_S2x32x1x28x28_S2x32x1x28x28_S2x32x1x28x28_S2x32x1x28x28_S2x32x1x28x28_S2x32x1x28x28_S2x32x9x28x28_d2
  let main_v56 : FVec F S2x288x784 .f32 := shapeCast S2x288x784 main_v55 shapeCasts_S2x32x9x28x28_S2x288x784
  let main_v57 : FVec F S32x288x3 .f32 := shapeCast S32x288x3 main_arg1 shapeCasts_S32x32x3x3x3_S32x288x3
  let main_v58 : FVec F S32x288x3 .f32 := shapeCast S32x288x3 main_arg2 shapeCasts_S32x32x3x3x3_S32x288x3
  let main_v59 : IVec S32x288x3 32 := fn_argsort (F := F) main_v57
  let main_v60 : FVec F S32x288x3 .f32 := fn_take_along_axis (F := F) main_v57 main_v59
  let main_v61 : FVec F S32x288x3 .f32 := fn_take_along_axis (F := F) main_v58 main_v59
  let main_v62 : FVec F S2x1x288x784 .f32 := broadcastInDim S2x1x288x784 ![0, 2, 3] bcast_S2x288x784_S2x1x288x784_0_2_3 main_v56
  let main_c_4 : IVec S_ 32 := constantI S_ 32 0#32
  let main_v63 : IVec S2x32x288x784 32 := broadcastInDim S2x32x288x784 ![] bcast_S_S2x32x288x784 main_c_4
  let main_v64 : FVec F S32x288x1 .f32 := (extractStridedSlice S32x288x1 ![0, 0, 1] · slices_S32x288x3_S32x288x1_0_0_1) main_v60
  fn_part3 (F := F) main_arg3 main_v35 main_v60 main_v61 main_v62 main_v63 main_v64

def fn_part1 {F : FTy → Type} [FloatOps F] (main_arg0 : FVec F S2x32x28x28 .f32) (main_arg1 : FVec F S32x32x3x3x3 .f32) (main_arg2 : FVec F S32x32x3x3x3 .f32) (main_arg3 : FVec F S2x32x28x28 .f32) (main_v1 : FVec F S32x288x3 .f32) (main_v17 : FVec F S32x288 .f32) (main_v19 : FVec F S32x288 .f32) (main_v21 : FVec F S32x288 .f32) : IVec S2x32x28x28 1 :=
  let main_v22 : FVec F S32x288 .f32 := subf main_v19 main_v21
  let main_cst_1 : FVec F S_ .f32 := constant S_ .f32 0x358637BD#32
  let main_v23 : FVec F S32x288 .f32 := broadcastInDim S32x288 ![] bcast_S_S32x288 main_cst_1
  let main_v24 : FVec F S32x288 .f32 := addf main_v22 main_v23
  let main_cst_2 : FVec F S_ .f32 := constant S_ .f32 0x358637BD#32
  let main_v25 : FVec F S32x288 .f32 := broadcastInDim S32x288 ![] bcast_S_S32x288 main_cst_2
  let main_v26 : FVec F S32x288 .f32 := Host.divf main_v25 main_v24
  let main_v27 : FVec F S32x288x1 .f32 := (extractStridedSlice S32x288x1 ![0, 0, 2] · slices_S32x288x3_S32x288x1_0_0_2) main_v1
  let main_v28 : FVec F S32x288 .f32 := shapeCast S32x288 main_v27 shapeCasts_S32x288x1_S32x288
  let main_v29 : FVec F S32x288x1 .f32 := (extractStridedSlice S32x288x1 ![0, 0, 1] · slices_S32x288x3_S32x288x1_0_0_1) main_v1
  let main_v30 : FVec F S32x288 .f32 := shapeCast S32x288 main_v29 shapeCasts_S32x288x1_S32x288
  let main_v31 : FVec F S32x288 .f32 := subf main_v28 main_v30
  let main_v32 : FVec F S32x288 .f32 := Host.absf main_v31
  let main_v33 : FVec F S32x288 .f32 := mulf main_v26 main_v32
  let main_v34 : FVec F S32x288 .f32 := addf main_v17 main_v33
  let main_cst_3 : FVec F S_ .f32 := constant S_ .f32 0x00000000#32
  let main_v35 : FVec F S32 .f32 := (fun x v => Host.reduceAdd x v reducesTo_S32x288_S32_d1 h_S_) main_v34 main_cst_3
  let main_c : IVec S_ 32 := constantI S_ 32 0#32
  let main_v36 : FVec F S2x32x30x30 .f32 := fn_pad (F := F) main_arg0 main_c
  let main_v37 : FVec F S2x32x28x28 .f32 := (extractStridedSlice S2x32x28x28 ![0, 0, 0, 0] · slices_S2x32x30x30_S2x32x28x28_0_0_0_0) main_v36
  let main_v38 : FVec F S2x32x28x28 .f32 := (extractStridedSlice S2x32x28x28 ![0, 0, 0, 1] · slices_S2x32x30x30_S2x32x28x28_0_0_0_1) main_v36
  let main_v39 : FVec F S2x32x28x28 .f32 := (extractStridedSlice S2x32x28x28 ![0, 0, 0, 2] · slices_S2x32x30x30_S2x32x28x28_0_0_0_2) main_v36
  let main_v40 : FVec F S2x32x28x28 .f32 := (extractStridedSlice S2x32x28x28 ![0, 0, 1, 0] · slices_S2x32x30x30_S2x32x28x28_0_0_1_0) main_v36
  let main_v41 : FVec F S2x32x28x28 .f32 := (extractStridedSlice S2x32x28x28 ![0, 0, 1, 1] · slices_S2x32x30x30_S2x32x28x28_0_0_1_1) main_v36
  fn_part2 (F := F) main_arg1 main_arg2 main_arg3 main_v35 main_v36 main_v37 main_v38 main_v39 main_v40 main_v41

def fn {F : FTy → Type} [FloatOps F] (main_arg0 : FVec F S2x32x28x28 .f32) (main_arg1 : FVec F S32x32x3x3x3 .f32) (main_arg2 : FVec F S32x32x3x3x3 .f32) (main_arg3 : FVec F S2x32x28x28 .f32) : IVec S2x32x28x28 1 :=
  let main_v0 : FVec F S32x288x3 .f32 := shapeCast S32x288x3 main_arg1 shapeCasts_S32x32x3x3x3_S32x288x3
  let main_v1 : FVec F S32x288x3 .f32 := shapeCast S32x288x3 main_arg2 shapeCasts_S32x32x3x3x3_S32x288x3
  let main_v2 : FVec F S32x288x1 .f32 := (extractStridedSlice S32x288x1 ![0, 0, 1] · slices_S32x288x3_S32x288x1_0_0_1) main_v0
  let main_v3 : FVec F S32x288 .f32 := shapeCast S32x288 main_v2 shapeCasts_S32x288x1_S32x288
  let main_v4 : FVec F S32x288x1 .f32 := (extractStridedSlice S32x288x1 ![0, 0, 0] · slices_S32x288x3_S32x288x1_0_0_0) main_v0
  let main_v5 : FVec F S32x288 .f32 := shapeCast S32x288 main_v4 shapeCasts_S32x288x1_S32x288
  let main_v6 : FVec F S32x288 .f32 := subf main_v3 main_v5
  let main_cst : FVec F S_ .f32 := constant S_ .f32 0x358637BD#32
  let main_v7 : FVec F S32x288 .f32 := broadcastInDim S32x288 ![] bcast_S_S32x288 main_cst
  let main_v8 : FVec F S32x288 .f32 := addf main_v6 main_v7
  let main_cst_0 : FVec F S_ .f32 := constant S_ .f32 0x358637BD#32
  let main_v9 : FVec F S32x288 .f32 := broadcastInDim S32x288 ![] bcast_S_S32x288 main_cst_0
  let main_v10 : FVec F S32x288 .f32 := Host.divf main_v9 main_v8
  let main_v11 : FVec F S32x288x1 .f32 := (extractStridedSlice S32x288x1 ![0, 0, 1] · slices_S32x288x3_S32x288x1_0_0_1) main_v1
  let main_v12 : FVec F S32x288 .f32 := shapeCast S32x288 main_v11 shapeCasts_S32x288x1_S32x288
  let main_v13 : FVec F S32x288x1 .f32 := (extractStridedSlice S32x288x1 ![0, 0, 0] · slices_S32x288x3_S32x288x1_0_0_0) main_v1
  let main_v14 : FVec F S32x288 .f32 := shapeCast S32x288 main_v13 shapeCasts_S32x288x1_S32x288
  let main_v15 : FVec F S32x288 .f32 := subf main_v12 main_v14
  let main_v16 : FVec F S32x288 .f32 := Host.absf main_v15
  let main_v17 : FVec F S32x288 .f32 := mulf main_v10 main_v16
  let main_v18 : FVec F S32x288x1 .f32 := (extractStridedSlice S32x288x1 ![0, 0, 2] · slices_S32x288x3_S32x288x1_0_0_2) main_v0
  let main_v19 : FVec F S32x288 .f32 := shapeCast S32x288 main_v18 shapeCasts_S32x288x1_S32x288
  let main_v20 : FVec F S32x288x1 .f32 := (extractStridedSlice S32x288x1 ![0, 0, 1] · slices_S32x288x3_S32x288x1_0_0_1) main_v0
  let main_v21 : FVec F S32x288 .f32 := shapeCast S32x288 main_v20 shapeCasts_S32x288x1_S32x288
  fn_part1 (F := F) main_arg0 main_arg1 main_arg2 main_arg3 main_v1 main_v17 main_v19 main_v21
-- ==== Pre_shared_grid.lean ====
abbrev S2x32x28x28 : Shape := ⟨4, ![2, 32, 28, 28]⟩
abbrev S32x32x3x3x3 : Shape := ⟨5, ![32, 32, 3, 3, 3]⟩
abbrev S1x1x1x1x3 : Shape := ⟨5, ![1, 1, 1, 1, 3]⟩
abbrev S1x1x1x1x1 : Shape := ⟨5, ![1, 1, 1, 1, 1]⟩
abbrev S_ : Shape := ⟨0, ![]⟩

class Facts : Prop where
  slices_S32x32x3x3x3_S1x1x1x1x3_0_0_0_0_0 : S32x32x3x3x3.Slices ![0, 0, 0, 0, 0] S1x1x1x1x3
  bcast_S1x1x1x1x3_S32x32x3x3x3_0_1_2_3_4 : S1x1x1x1x3.BroadcastsInDim S32x32x3x3x3 (![0, 1, 2, 3, 4] : Fin 5 → Fin S32x32x3x3x3.rank)
  slices_S1x1x1x1x3_S1x1x1x1x1_0_0_0_0_0 : S1x1x1x1x3.Slices ![0, 0, 0, 0, 0] S1x1x1x1x1
  slices_S1x1x1x1x3_S1x1x1x1x1_0_0_0_0_1 : S1x1x1x1x3.Slices ![0, 0, 0, 0, 1] S1x1x1x1x1
  slices_S1x1x1x1x3_S1x1x1x1x1_0_0_0_0_2 : S1x1x1x1x3.Slices ![0, 0, 0, 0, 2] S1x1x1x1x1
  bcast_S_S1x1x1x1x3 : S_.BroadcastsInDim S1x1x1x1x3 (![] : Fin 0 → Fin S1x1x1x1x3.rank)
  bcast_S_S32x32x3x3x3 : S_.BroadcastsInDim S32x32x3x3x3 (![] : Fin 0 → Fin S32x32x3x3x3.rank)

variable [Facts]

def fn {F : FTy → Type} [FloatOps F] (main_arg0 : FVec F S2x32x28x28 .f32) (main_arg1 : FVec F S32x32x3x3x3 .f32) (main_arg2 : FVec F S32x32x3x3x3 .f32) : IVec S32x32x3x3x3 1 × IVec S1x1x1x1x1 1 × IVec S1x1x1x1x1 1 × IVec S1x1x1x1x3 1 × IVec S32x32x3x3x3 1 :=
  let main_v0 : FVec F S1x1x1x1x3 .f32 := (extractStridedSlice S1x1x1x1x3 ![0, 0, 0, 0, 0] · slices_S32x32x3x3x3_S1x1x1x1x3_0_0_0_0_0) main_arg1
  let main_v1 : FVec F S32x32x3x3x3 .f32 := broadcastInDim S32x32x3x3x3 ![0, 1, 2, 3, 4] bcast_S1x1x1x1x3_S32x32x3x3x3_0_1_2_3_4 main_v0
  let main_v2 : IVec S32x32x3x3x3 1 := cmpf .oeq main_arg1 main_v1
  let main_v3 : FVec F S1x1x1x1x1 .f32 := (extractStridedSlice S1x1x1x1x1 ![0, 0, 0, 0, 0] · slices_S1x1x1x1x3_S1x1x1x1x1_0_0_0_0_0) main_v0
  let main_v4 : FVec F S1x1x1x1x1 .f32 := (extractStridedSlice S1x1x1x1x1 ![0, 0, 0, 0, 1] · slices_S1x1x1x1x3_S1x1x1x1x1_0_0_0_0_1) main_v0
  let main_v5 : FVec F S1x1x1x1x1 .f32 := (extractStridedSlice S1x1x1x1x1 ![0, 0, 0, 0, 2] · slices_S1x1x1x1x3_S1x1x1x1x1_0_0_0_0_2) main_v0
  let main_v6 : IVec S1x1x1x1x1 1 := cmpf .ole main_v3 main_v4
  let main_v7 : IVec S1x1x1x1x1 1 := cmpf .ole main_v4 main_v5
  let main_v8 : FVec F S1x1x1x1x3 .f32 := Host.absf main_v0
  let main_cst : FVec F S_ .f32 := constant S_ .f32 0x7F800000#32
  let main_v9 : FVec F S1x1x1x1x3 .f32 := broadcastInDim S1x1x1x1x3 ![] bcast_S_S1x1x1x1x3 main_cst
  let main_v10 : IVec S1x1x1x1x3 1 := cmpf .olt main_v8 main_v9
  let main_v11 : FVec F S32x32x3x3x3 .f32 := Host.absf main_arg2
  let main_cst_0 : FVec F S_ .f32 := constant S_ .f32 0x7F800000#32
  let main_v12 : FVec F S32x32x3x3x3 .f32 := broadcastInDim S32x32x3x3x3 ![] bcast_S_S32x32x3x3x3 main_cst_0
  let main_v13 : IVec S32x32x3x3x3 1 := cmpf .olt main_v11 main_v12
  (main_v2, main_v6, main_v7, main_v10, main_v13)
-- ==== Kernel.lean ====
abbrev S2x32x28x28 : Shape := ⟨4, ![2, 32, 28, 28]⟩
abbrev S32x32x3x3x3 : Shape := ⟨5, ![32, 32, 3, 3, 3]⟩
abbrev S28x28x2x32 : Shape := ⟨4, ![28, 28, 2, 32]⟩
abbrev S1568x32 : Shape := ⟨2, ![1568, 32]⟩
abbrev S3x3x3x32x32 : Shape := ⟨5, ![3, 3, 3, 32, 32]⟩
abbrev S864x32 : Shape := ⟨2, ![864, 32]⟩
abbrev S32x1800 : Shape := ⟨2, ![32, 1800]⟩
abbrev S1x1 : Shape := ⟨2, ![1, 1]⟩
abbrev S32x1568 : Shape := ⟨2, ![32, 1568]⟩
abbrev S32x56 : Shape := ⟨2, ![32, 56]⟩
abbrev S64x1800 : Shape := ⟨2, ![64, 1800]⟩
abbrev S192x1800 : Shape := ⟨2, ![192, 1800]⟩
abbrev S32x32 : Shape := ⟨2, ![32, 32]⟩
abbrev S32x192 : Shape := ⟨2, ![32, 192]⟩
abbrev S32 : Shape := ⟨1, ![32]⟩
abbrev S32x1 : Shape := ⟨2, ![32, 1]⟩
abbrev S1800x32 : Shape := ⟨2, ![1800, 32]⟩
abbrev S56x32 : Shape := ⟨2, ![56, 32]⟩

abbrev nBuf : Space → Nat
  | .hbm => 12
  | .vmem => 5
  | .smem => 0
  | _ => 0

abbrev bufTy : (tb : Table) → Fin (tcTables nBuf tb) → BufTy
  | .hbm, ⟨0, _⟩ => ⟨S2x32x28x28, .f32⟩
  | .hbm, ⟨1, _⟩ => ⟨S32x32x3x3x3, .f32⟩
  | .hbm, ⟨2, _⟩ => ⟨S32x32x3x3x3, .f32⟩
  | .hbm, ⟨3, _⟩ => ⟨S28x28x2x32, .f32⟩
  | .hbm, ⟨4, _⟩ => ⟨S1568x32, .f32⟩
  | .hbm, ⟨5, _⟩ => ⟨S3x3x3x32x32, .f32⟩
  | .hbm, ⟨6, _⟩ => ⟨S864x32, .f32⟩
  | .hbm, ⟨7, _⟩ => ⟨S3x3x3x32x32, .f32⟩
  | .hbm, ⟨8, _⟩ => ⟨S864x32, .f32⟩
  | .hbm, ⟨9, _⟩ => ⟨S1568x32, .f32⟩
  | .hbm, ⟨10, _⟩ => ⟨S28x28x2x32, .f32⟩
  | .hbm, ⟨11, _⟩ => ⟨S2x32x28x28, .f32⟩
  | .local _ .vmem, ⟨0, _⟩ => ⟨S1568x32, .f32⟩
  | .local _ .vmem, ⟨1, _⟩ => ⟨S864x32, .f32⟩
  | .local _ .vmem, ⟨2, _⟩ => ⟨S864x32, .f32⟩
  | .local _ .vmem, ⟨3, _⟩ => ⟨S1568x32, .f32⟩
  | .local _ .vmem, ⟨4, _⟩ => ⟨S32x1800, .f32⟩
  | _, _ => ⟨S2x32x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1568x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S864x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S864x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1568x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x32x28x28 : Shape := ⟨4, ![2, 32, 28, 28]⟩
abbrev S32x32x3x3x3 : Shape := ⟨5, ![32, 32, 3, 3, 3]⟩
abbrev S_ : Shape := ⟨0, ![]⟩
abbrev S2x32x30x30 : Shape := ⟨4, ![2, 32, 30, 30]⟩
abbrev S2x32x1x28x28 : Shape := ⟨5, ![2, 32, 1, 28, 28]⟩
abbrev S2x32x9x28x28 : Shape := ⟨5, ![2, 32, 9, 28, 28]⟩
abbrev S2x288x784 : Shape := ⟨3, ![2, 288, 784]⟩
abbrev S32x288x3 : Shape := ⟨3, ![32, 288, 3]⟩
abbrev S32x288x3x1 : Shape := ⟨4, ![32, 288, 3, 1]⟩
abbrev S1 : Shape := ⟨1, ![1]⟩
abbrev S1x1x1x1 : Shape := ⟨4, ![1, 1, 1, 1]⟩
abbrev S2x1x288x784 : Shape := ⟨4, ![2, 1, 288, 784]⟩
abbrev S2x32x288x784 : Shape := ⟨4, ![2, 32, 288, 784]⟩
abbrev S32x288x1 : Shape := ⟨3, ![32, 288, 1]⟩
abbrev S32x288 : Shape := ⟨2, ![32, 288]⟩
abbrev S1x32x288x1 : Shape := ⟨4, ![1, 32, 288, 1]⟩
abbrev S2x32x784 : Shape := ⟨3, ![2, 32, 784]⟩

abbrev nBuf : Space → Nat
  | .hbm => 213
  | .vmem => 0
  | .smem => 0
  | _ => 0

abbrev hbmTy0_0 (i : Nat) : BufTy := match i % 128 with
  | 0 => ⟨S2x32x28x28, .f32⟩
  | 1 => ⟨S32x32x3x3x3, .f32⟩
  | 2 => ⟨S32x32x3x3x3, .f32⟩
  | 3 => ⟨S_, .i32⟩
  | 4 => ⟨S_, .f32⟩
  | 5 => ⟨S2x32x30x30, .f32⟩
  | 6 => ⟨S2x32x28x28, .f32⟩
  | 7 => ⟨S2x32x28x28, .f32⟩
  | 8 => ⟨S2x32x28x28, .f32⟩
  | 9 => ⟨S2x32x28x28, .f32⟩
  | 10 => ⟨S2x32x28x28, .f32⟩
  | 11 => ⟨S2x32x28x28, .f32⟩
  | 12 => ⟨S2x32x28x28, .f32⟩
  | 13 => ⟨S2x32x28x28, .f32⟩
  | 14 => ⟨S2x32x28x28, .f32⟩
  | 15 => ⟨S2x32x1x28x28, .f32⟩
  | 16 => ⟨S2x32x1x28x28, .f32⟩
  | 17 => ⟨S2x32x1x28x28, .f32⟩
  | 18 => ⟨S2x32x1x28x28, .f32⟩
  | 19 => ⟨S2x32x1x28x28, .f32⟩
  | 20 => ⟨S2x32x1x28x28, .f32⟩
  | 21 => ⟨S2x32x1x28x28, .f32⟩
  | 22 => ⟨S2x32x1x28x28, .f32⟩
  | 23 => ⟨S2x32x1x28x28, .f32⟩
  | 24 => ⟨S2x32x9x28x28, .f32⟩
  | 25 => ⟨S2x288x784, .f32⟩
  | 26 => ⟨S32x288x3, .f32⟩
  | 27 => ⟨S32x288x3, .f32⟩
  | 28 => ⟨S32x288x3, .i32⟩
  | 29 => ⟨S32x288x3, .f32⟩
  | 30 => ⟨S32x288x3, .i32⟩
  | 31 => ⟨S_, .i32⟩
  | 32 => ⟨S32x288x3, .i32⟩
  | 33 => ⟨S32x288x3, .i1⟩
  | 34 => ⟨S_, .i32⟩
  | 35 => ⟨S32x288x3, .i32⟩
  | 36 => ⟨S32x288x3, .i32⟩
  | 37 => ⟨S32x288x3, .i32⟩
  | 38 => ⟨S32x288x3x1, .i32⟩
  | 39 => ⟨S1, .i32⟩
  | 40 => ⟨S_, .i32⟩
  | 41 => ⟨S32x288x3x1, .i32⟩
  | 42 => ⟨S32x288x3x1, .i1⟩
  | 43 => ⟨S1x1x1x1, .i32⟩
  | 44 => ⟨S32x288x3x1, .i32⟩
  | 45 => ⟨S32x288x3x1, .i1⟩
  | 46 => ⟨S32x288x3x1, .i1⟩
  | 47 => ⟨S_, .i1⟩
  | 48 => ⟨S32x288x3, .i1⟩
  | 49 => ⟨S32x288x3, .f32⟩
  | 50 => ⟨S_, .f32⟩
  | 51 => ⟨S32x288x3, .f32⟩
  | 52 => ⟨S32x288x3, .f32⟩
  | 53 => ⟨S_, .i32⟩
  | 54 => ⟨S32x288x3, .i32⟩
  | 55 => ⟨S32x288x3, .i1⟩
  | 56 => ⟨S_, .i32⟩
  | 57 => ⟨S32x288x3, .i32⟩
  | 58 => ⟨S32x288x3, .i32⟩
  | 59 => ⟨S32x288x3, .i32⟩
  | 60 => ⟨S32x288x3x1, .i32⟩
  | 61 => ⟨S1, .i32⟩
  | 62 => ⟨S_, .i32⟩
  | 63 => ⟨S32x288x3x1, .i32⟩
  | 64 => ⟨S32x288x3x1, .i1⟩
  | 65 => ⟨S1x1x1x1, .i32⟩
  | 66 => ⟨S32x288x3x1, .i32⟩
  | 67 => ⟨S32x288x3x1, .i1⟩
  | 68 => ⟨S32x288x3x1, .i1⟩
  | 69 => ⟨S_, .i1⟩
  | 70 => ⟨S32x288x3, .i1⟩
  | 71 => ⟨S32x288x3, .f32⟩
  | 72 => ⟨S_, .f32⟩
  | 73 => ⟨S32x288x3, .f32⟩
  | 74 => ⟨S32x288x3, .f32⟩
  | 75 => ⟨S2x1x288x784, .f32⟩
  | 76 => ⟨S_, .i32⟩
  | 77 => ⟨S2x32x288x784, .i32⟩
  | 78 => ⟨S32x288x1, .f32⟩
  | 79 => ⟨S32x288, .f32⟩
  | 80 => ⟨S1x32x288x1, .f32⟩
  | 81 => ⟨S2x32x288x784, .f32⟩
  | 82 => ⟨S2x32x288x784, .f32⟩
  | 83 => ⟨S2x32x288x784, .i1⟩
  | 84 => ⟨S2x32x288x784, .i32⟩
  | 85 => ⟨S2x32x288x784, .i32⟩
  | 86 => ⟨S32x288x1, .f32⟩
  | 87 => ⟨S32x288, .f32⟩
  | 88 => ⟨S1x32x288x1, .f32⟩
  | 89 => ⟨S2x32x288x784, .f32⟩
  | 90 => ⟨S2x32x288x784, .f32⟩
  | 91 => ⟨S2x32x288x784, .i1⟩
  | 92 => ⟨S2x32x288x784, .i32⟩
  | 93 => ⟨S2x32x288x784, .i32⟩
  | 94 => ⟨S_, .i32⟩
  | 95 => ⟨S_, .i32⟩
  | 96 => ⟨S_, .i32⟩
  | 97 => ⟨S2x32x288x784, .i32⟩
  | 98 => ⟨S2x32x288x784, .i32⟩
  | 99 => ⟨S_, .i32⟩
  | 100 => ⟨S2x32x288x784, .i32⟩
  | 101 => ⟨S2x32x288x784, .i32⟩
  | 102 => ⟨S_, .f32⟩
  | 103 => ⟨S2x32x288x784, .f32⟩
  | 104 => ⟨S32x288x1, .f32⟩
  | 105 => ⟨S32x288, .f32⟩
  | 106 => ⟨S1x32x288x1, .f32⟩
  | 107 => ⟨S32x288x1, .f32⟩
  | 108 => ⟨S32x288, .f32⟩
  | 109 => ⟨S1x32x288x1, .f32⟩
  | 110 => ⟨S32x288x1, .f32⟩
  | 111 => ⟨S32x288, .f32⟩
  | 112 => ⟨S1x32x288x1, .f32⟩
  | 113 => ⟨S32x288x1, .f32⟩
  | 114 => ⟨S32x288, .f32⟩
  | 115 => ⟨S1x32x288x1, .f32⟩
  | 116 => ⟨S2x32x288x784, .f32⟩
  | 117 => ⟨S2x32x288x784, .f32⟩
  | 118 => ⟨S2x32x288x784, .f32⟩
  | 119 => ⟨S1x32x288x1, .f32⟩
  | 120 => ⟨S_, .f32⟩
  | 121 => ⟨S1x32x288x1, .f32⟩
  | 122 => ⟨S1x32x288x1, .f32⟩
  | 123 => ⟨S2x32x288x784, .f32⟩
  | 124 => ⟨S2x32x288x784, .f32⟩
  | 125 => ⟨S_, .f32⟩
  | 126 => ⟨S_, .f32⟩
  | 127 => ⟨S_, .f32⟩
  | _ => ⟨S2x32x28x28, .f32⟩

abbrev hbmTy0_1 (i : Nat) : BufTy := match i % 128 with
  | 0 => ⟨S2x32x288x784, .f32⟩
  | 1 => ⟨S2x32x288x784, .f32⟩
  | 2 => ⟨S_, .f32⟩
  | 3 => ⟨S2x32x288x784, .f32⟩
  | 4 => ⟨S2x32x288x784, .f32⟩
  | 5 => ⟨S1x32x288x1, .i1⟩
  | 6 => ⟨S1x32x288x1, .f32⟩
  | 7 => ⟨S2x32x288x784, .f32⟩
  | 8 => ⟨S2x32x288x784, .f32⟩
  | 9 => ⟨S2x32x288x784, .f32⟩
  | 10 => ⟨S2x32x288x784, .f32⟩
  | 11 => ⟨S2x32x288x784, .i1⟩
  | 12 => ⟨S2x32x288x784, .f32⟩
  | 13 => ⟨S2x32x288x784, .f32⟩
  | 14 => ⟨S_, .i32⟩
  | 15 => ⟨S2x32x288x784, .i32⟩
  | 16 => ⟨S2x32x288x784, .i1⟩
  | 17 => ⟨S2x32x288x784, .f32⟩
  | 18 => ⟨S32x288x1, .f32⟩
  | 19 => ⟨S32x288, .f32⟩
  | 20 => ⟨S1x32x288x1, .f32⟩
  | 21 => ⟨S32x288x1, .f32⟩
  | 22 => ⟨S32x288, .f32⟩
  | 23 => ⟨S1x32x288x1, .f32⟩
  | 24 => ⟨S32x288x1, .f32⟩
  | 25 => ⟨S32x288, .f32⟩
  | 26 => ⟨S1x32x288x1, .f32⟩
  | 27 => ⟨S32x288x1, .f32⟩
  | 28 => ⟨S32x288, .f32⟩
  | 29 => ⟨S1x32x288x1, .f32⟩
  | 30 => ⟨S2x32x288x784, .f32⟩
  | 31 => ⟨S2x32x288x784, .f32⟩
  | 32 => ⟨S2x32x288x784, .f32⟩
  | 33 => ⟨S1x32x288x1, .f32⟩
  | 34 => ⟨S_, .f32⟩
  | 35 => ⟨S1x32x288x1, .f32⟩
  | 36 => ⟨S1x32x288x1, .f32⟩
  | 37 => ⟨S2x32x288x784, .f32⟩
  | 38 => ⟨S2x32x288x784, .f32⟩
  | 39 => ⟨S_, .f32⟩
  | 40 => ⟨S_, .f32⟩
  | 41 => ⟨S_, .f32⟩
  | 42 => ⟨S2x32x288x784, .f32⟩
  | 43 => ⟨S2x32x288x784, .f32⟩
  | 44 => ⟨S_, .f32⟩
  | 45 => ⟨S2x32x288x784, .f32⟩
  | 46 => ⟨S2x32x288x784, .f32⟩
  | 47 => ⟨S1x32x288x1, .i1⟩
  | 48 => ⟨S1x32x288x1, .f32⟩
  | 49 => ⟨S2x32x288x784, .f32⟩
  | 50 => ⟨S2x32x288x784, .f32⟩
  | 51 => ⟨S2x32x288x784, .f32⟩
  | 52 => ⟨S2x32x288x784, .f32⟩
  | 53 => ⟨S2x32x288x784, .i1⟩
  | 54 => ⟨S2x32x288x784, .f32⟩
  | 55 => ⟨S2x32x288x784, .f32⟩
  | 56 => ⟨S_, .i32⟩
  | 57 => ⟨S2x32x288x784, .i32⟩
  | 58 => ⟨S2x32x288x784, .i1⟩
  | 59 => ⟨S2x32x288x784, .f32⟩
  | 60 => ⟨S32x288x1, .f32⟩
  | 61 => ⟨S32x288, .f32⟩
  | 62 => ⟨S1x32x288x1, .f32⟩
  | 63 => ⟨S32x288x1, .f32⟩
  | 64 => ⟨S32x288, .f32⟩
  | 65 => ⟨S1x32x288x1, .f32⟩
  | 66 => ⟨S2x32x288x784, .f32⟩
  | 67 => ⟨S2x32x288x784, .f32⟩
  | 68 => ⟨S2x32x288x784, .i1⟩
  | 69 => ⟨S32x288x1, .f32⟩
  | 70 => ⟨S32x288, .f32⟩
  | 71 => ⟨S1x32x288x1, .f32⟩
  | 72 => ⟨S2x32x288x784, .f32⟩
  | 73 => ⟨S2x32x288x784, .f32⟩
  | 74 => ⟨S2x32x288x784, .f32⟩
  | 75 => ⟨S2x32x288x784, .f32⟩
  | 76 => ⟨S2x32x288x784, .i1⟩
  | 77 => ⟨S32x288x1, .f32⟩
  | 78 => ⟨S32x288, .f32⟩
  | 79 => ⟨S1x32x288x1, .f32⟩
  | 80 => ⟨S2x32x288x784, .f32⟩
  | 81 => ⟨S2x32x288x784, .f32⟩
  | 82 => ⟨S_, .f32⟩
  | 83 => ⟨S2x32x784, .f32⟩
  | 84 => ⟨S2x32x28x28, .f32⟩
  | _ => ⟨S2x32x28x28, .f32⟩

abbrev hbmTy (i : Nat) : BufTy := match i / 128 with
  | 0 => hbmTy0_0 i
  | 1 => hbmTy0_1 i
  | _ => ⟨S2x32x28x28, .f32⟩

abbrev bufTy : (tb : Table) → Fin (tcTables nBuf tb) → BufTy
  | .hbm, ⟨i, _⟩ => hbmTy i
  | _, _ => ⟨S2x32x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_call1_v0 : Ref sig .tc := ⟨.hbm, 28, rfl⟩
abbrev main_call1_v1_0 : Ref sig .tc := ⟨.hbm, 29, rfl⟩
abbrev main_v23 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_cst : Ref sig .tc := ⟨.hbm, 50, rfl⟩
abbrev main_call2_v14 : Ref sig .tc := ⟨.hbm, 51, rfl⟩
abbrev main_v24 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_c_1 : Ref sig .tc := ⟨.hbm, 61, rfl⟩
abbrev main_call3_c_2 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_3 : Ref sig .tc := ⟨.hbm, 69, rfl⟩
abbrev main_call3_v12 : Ref sig .tc := ⟨.hbm, 70, rfl⟩
abbrev main_call3_v13 : Ref sig .tc := ⟨.hbm, 71, rfl⟩
abbrev main_call3_cst : Ref sig .tc := ⟨.hbm, 72, rfl⟩
abbrev main_call3_v14 : Ref sig .tc := ⟨.hbm, 73, rfl⟩
abbrev main_v25 : Ref sig .tc := ⟨.hbm, 74, rfl⟩
abbrev main_v26 : Ref sig .tc := ⟨.hbm, 75, rfl⟩
abbrev main_c_0 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_c_1 : Ref sig .tc := ⟨.hbm, 94, rfl⟩
abbrev main_c_2 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_v44 : Ref sig .tc := ⟨.hbm, 101, rfl⟩
abbrev main_cst : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_cst_3 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_cst_4 : Ref sig .tc := ⟨.hbm, 125, rfl⟩
abbrev main_cst_5 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_call6_v0 : Ref sig .tc := ⟨.hbm, 139, rfl⟩
abbrev main_call6_v1 : Ref sig .tc := ⟨.hbm, 140, rfl⟩
abbrev main_v73 : Ref sig .tc := ⟨.hbm, 141, rfl⟩
abbrev main_c_6 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_cst_7 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_cst_8 : Ref sig .tc := ⟨.hbm, 167, rfl⟩
abbrev main_cst_9 : Ref sig .tc := ⟨.hbm, 168, rfl⟩
abbrev main_call8_v0 : Ref sig .tc := ⟨.hbm, 169, rfl⟩
abbrev main_call8_v1 : Ref sig .tc := ⟨.hbm, 170, rfl⟩
abbrev main_call8_v2 : Ref sig .tc := ⟨.hbm, 171, rfl⟩
abbrev main_call8_v3 : Ref sig .tc := ⟨.hbm, 172, rfl⟩
abbrev main_call8_v4 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_call9_v0 : Ref sig .tc := ⟨.hbm, 181, rfl⟩
abbrev main_call9_v1 : Ref sig .tc := ⟨.hbm, 182, rfl⟩
abbrev main_v104 : Ref sig .tc := ⟨.hbm, 183, rfl⟩
abbrev main_c_10 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_call11_v0 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_call12_v0 : Ref sig .tc := ⟨.hbm, 208, rfl⟩
abbrev main_v127 : Ref sig .tc := ⟨.hbm, 209, rfl⟩
abbrev main_cst_11 : Ref sig .tc := ⟨.hbm, 210, rfl⟩
abbrev main_v128 : Ref sig .tc := ⟨.hbm, 211, rfl⟩
abbrev main_v129 : Ref sig .tc := ⟨.hbm, 212, rfl⟩

abbrev nD : Nat := 1
abbrev τ : Topo := Topo.v7x

variable {F : FTy → Type} [FloatOps F]
-- ==== Proof.Staged.lean ====
/-
  What the kernel's scratch buffer holds when it is read back: zeros, and over them the 28 rows of the image, each 56
  columns wide (28 pixels of both images), row `h` at column `60 h + 62`.
-/
module

public import proofs.«01_k».proof.Proof.Gen.KernelIdeal.Frame
public import Idealize.ShloMosaic.Lib.Pipeline.Value
public import Idealize.ShloMosaic.Lib.ValueIdx
public import Idealize.ShloMosaic.Lib.IdealHost
public import Idealize.ShloMosaic.PureOps.Ideal

@[expose] public section

noncomputable section

namespace Cert.Staged

open Cert.KernelIdeal Cert.KernelIdeal.Gen Idealize.ShloMosaic Idealize.ShloMosaic.ValueIdx

/-- The column block of row `h` of the image lies in the scratch buffer. -/
theorem slab_inb (h : Fin 28) : ∀ a, (![0, 60 * h.val + 62] : Fin 2 → ℕ) a + S32x56.size a ≤ S32x1800.size a := fun a => by
  match a with
  | ⟨0, _⟩ => show 0 + 32 ≤ 32; omega
  | ⟨1, _⟩ => show 60 * h.val + 62 + 56 ≤ 1800; omega

/-- Row `h` of the image is a slice of the transposed image. -/
theorem slab_slices (h : Fin 28) : S32x1568.Slices ![0, 56 * h.val] S32x56 := by
  revert h; decide

/-- The store of row `h`. -/
def slab (XT : FVec Ideal S32x1568 .f32) (h : Fin 28) : View.Piece (Elt Ideal) S32x1800 .f32 :=
  ⟨Rect.unit ![0, 60 * h.val + 62] S32x56.size (slab_inb h),
    shapeCast S32x56 (extractStridedSlice S32x56 ![0, 56 * h.val] XT (slab_slices h)) shapeCasts_S32x56_S32x56⟩

/-- The rows in the order of the pieces: the last store first. -/
def rows : List (Fin 28) :=
  [27, 26, 25, 24, 23, 22, 21, 20, 19, 18, 17, 16, 15, 14, 13, 12, 11, 10, 9, 8, 7, 6, 5, 4, 3, 2, 1, 0]

theorem mem_rows (h : Fin 28) : h ∈ rows := by revert h; decide

variable (c : Dev nD) (arg0 : Memref sig .tc .vmem S1568x32 .f32) (harg0 : arg0.IsWhole) (x0 : Vec Ideal S1568x32 .f32)

/-- The zeros stored first. -/
def zeros : View.Piece (Elt Ideal) S32x1800 .f32 :=
  ⟨Rect.unit ![0, 0] S32x1800.size inb_S32x1800_S32x1800_0_0, (k0_pay10 (F := Ideal) : FVec Ideal S32x1800 .f32)⟩

/-- The stores the scratch buffer is read back after. -/
theorem pieces_eq : kernelRun0_A.sl.HS0_29 c arg0 harg0 x0
    = rows.map (slab (kernelRun0_A.sl.r_4 c arg0 harg0 x0)) ++ [zeros] := rfl

/-- Stores over an earlier one: where each of them holds `X` and, off all of them, the earlier one does, the buffer holds
    `X`. -/
theorem canon_over {s : Shape} (L : List (View.Piece (Elt Ideal) s .f32)) (z : View.Piece (Elt Ideal) s .f32)
    (X : s.Idx → EReal) (y : s.Idx) (hL : ∀ p ∈ L, ∀ j, p.2 j = X (p.1.emb j))
    (hz : (∀ p ∈ L, y ∉ p.1.set) → View.canon [z] y = X y) : View.canon (L ++ [z]) y = X y := by
  induction L with
  | nil => exact hz fun p hp => absurd hp List.not_mem_nil
  | cons p L ih =>
    by_cases hy : y ∈ p.1.set
    · obtain ⟨r, w⟩ := p
      obtain ⟨x, rfl⟩ : ∃ x, r.emb x = y := r.exists_idx_of_mem hy
      exact (View.canon_cons_emb r w (L ++ [z]) x).trans (hL _ List.mem_cons_self x)
    · refine (View.canon_cons_of_not_mem p (L ++ [z]) hy).trans (ih (fun q hq => hL q (List.mem_cons_of_mem _ hq)) ?_)
      intro h
      refine hz fun q hq => ?_
      rcases List.mem_cons.mp hq with rfl | hq
      · exact hy
      · exact h q hq

/-- The scratch buffer's entry in channel `ch` and column `q`. -/
def cols (X : S1568x32.Idx → EReal) (ch : Fin 32) (q : ℕ) : EReal :=
  if h : (1 ≤ q / 60 ∧ q / 60 ≤ 28) ∧ (2 ≤ q % 60 ∧ q % 60 < 58) then
    X (ix2 ⟨56 * (q / 60 - 1) + (q % 60 - 2), by omega⟩ ch)
  else 0

/-- The transposed image at an index. -/
theorem transposed_apply (j : S32x1568.Idx) : kernelRun0_A.sl.r_4 c arg0 harg0 x0 j = x0 (ix2 (j 1) (j 0)) := by
  unfold kernelRun0_A.sl.r_4 k0_pay9
  dsimp only
  rw [shapeCast_self, View.readAt_eq_ld, harg0.read_unread]
  refine (transpose_apply [1, 0] _ _ j (ix2 (j 1) (j 0)) fun b => ?_).trans (congrArg x0 (funext fun a => Fin.ext ?_))
  · match b with
    | ⟨0, _⟩ => rfl
    | ⟨1, _⟩ => rfl
  · match a with
    | ⟨0, _⟩ => show 0 + 1 * (j 1).val = (j 1).val; omega
    | ⟨1, _⟩ => show 0 + 1 * (j 0).val = (j 0).val; omega

/-- What the store of row `h` writes. -/
theorem slab_apply (h : Fin 28) (j : S32x56.Idx) :
    (slab (kernelRun0_A.sl.r_4 c arg0 harg0 x0) h).2 j = cols x0 (j 0) (60 * h.val + 62 + (j 1).val) := by
  have h1 : (j 1).val < 56 := (j 1).isLt
  have hh := h.isLt
  unfold slab
  dsimp only
  rw [shapeCast_self]
  refine (extractStridedSlice_apply ![0, 56 * h.val] _ (slab_slices h) j
    (ix2 (j 0) ⟨56 * h.val + (j 1).val, by omega⟩) fun a => ?_).trans ((transposed_apply c arg0 harg0 x0 _).trans ?_)
  · match a with
    | ⟨0, _⟩ => show (j 0).val = 0 + (j 0).val; omega
    | ⟨1, _⟩ => rfl
  · unfold cols
    rw [dif_pos ⟨⟨by omega, by omega⟩, by omega, by omega⟩]
    refine congrArg x0 (funext fun a => Fin.ext ?_)
    match a with
    | ⟨0, _⟩ =>
      show 56 * h.val + (j 1).val
        = 56 * ((60 * h.val + 62 + (j 1).val) / 60 - 1) + ((60 * h.val + 62 + (j 1).val) % 60 - 2)
      omega
    | ⟨1, _⟩ => rfl

/-- An index in the columns of some row lies under that row's store. -/
theorem mem_slab (XT : FVec Ideal S32x1568 .f32) (y : S32x1800.Idx)
    (h : (1 ≤ (y 1).val / 60 ∧ (y 1).val / 60 ≤ 28) ∧ (2 ≤ (y 1).val % 60 ∧ (y 1).val % 60 < 58)) :
    ∃ n : Fin 28, y ∈ (slab XT n).1.set := by
  refine ⟨⟨(y 1).val / 60 - 1, by omega⟩, ?_⟩
  have e : (slab XT ⟨(y 1).val / 60 - 1, by omega⟩).1.emb (ix2 (y 0) (⟨(y 1).val % 60 - 2, by omega⟩ : Fin 56)) = y := by
    funext a
    refine Fin.ext ?_
    match a with
    | ⟨0, _⟩ => show 0 + 1 * (y 0).val = (y 0).val; omega
    | ⟨1, _⟩ => show 60 * ((y 1).val / 60 - 1) + 62 + 1 * ((y 1).val % 60 - 2) = (y 1).val; omega
  exact (congrArg (· ∈ (slab XT ⟨(y 1).val / 60 - 1, by omega⟩).1.set) e).mp (LoadRect.idx_mem _ _)

/-- THE SCRATCH BUFFER, as it is read back. -/
theorem staged_apply (arg4 : Memref sig .tc .vmem S32x1800 .f32) (y : S32x1800.Idx) :
    kernelRun0_A.sl.v131 c arg0 harg0 arg4 x0 y = cols x0 (y 0) (y 1).val := by
  unfold kernelRun0_A.sl.v131
  rw [View.readCov_eq_canon', pieces_eq]
  have e : (Rect.unit ![0, 0] S32x1800.size inb_S32x1800_S32x1800_0_0).toLoadRect.idx y = y := by
    funext a
    refine Fin.ext ?_
    match a with
    | ⟨0, _⟩ => show 0 + 1 * (y 0).val = (y 0).val; omega
    | ⟨1, _⟩ => show 0 + 1 * (y 1).val = (y 1).val; omega
  show View.canon _ ((Rect.unit ![0, 0] S32x1800.size inb_S32x1800_S32x1800_0_0).toLoadRect.idx y) = _
  rw [e]
  refine canon_over _ _ (fun y => cols x0 (y 0) (y 1).val) y (fun p hp j => ?_) fun hn => ?_
  · obtain ⟨h, -, rfl⟩ := List.mem_map.mp hp
    refine (slab_apply c arg0 harg0 x0 h j).trans ?_
    have e0 : ((slab (kernelRun0_A.sl.r_4 c arg0 harg0 x0) h).1.emb j) 0 = j 0 :=
      Fin.ext (by show 0 + 1 * (j 0).val = (j 0).val; omega)
    have e1 : (((slab (kernelRun0_A.sl.r_4 c arg0 harg0 x0) h).1.emb j) 1).val = 60 * h.val + 62 + (j 1).val := by
      show 60 * h.val + 62 + 1 * (j 1).val = _; omega
    show _ = cols x0 (((slab (kernelRun0_A.sl.r_4 c arg0 harg0 x0) h).1.emb j) 0)
      (((slab (kernelRun0_A.sl.r_4 c arg0 harg0 x0) h).1.emb j) 1).val
    rw [e0, e1]
  · have hout : ¬((1 ≤ (y 1).val / 60 ∧ (y 1).val / 60 ≤ 28) ∧ (2 ≤ (y 1).val % 60 ∧ (y 1).val % 60 < 58)) := fun h => by
      obtain ⟨n, hy⟩ := mem_slab (kernelRun0_A.sl.r_4 c arg0 harg0 x0) y h
      exact hn _ (List.mem_map.mpr ⟨n, mem_rows n, rfl⟩) hy
    show _ = cols x0 (y 0) (y 1).val
    unfold cols
    rw [dif_neg hout]
    have hy : y = (Rect.unit ![0, 0] S32x1800.size inb_S32x1800_S32x1800_0_0).emb y := e.symm
    rw [hy]
    unfold zeros
    rw [View.canon_cons_emb]
    show Ideal.ofBits .f32 0#32 = 0
    exact Ideal.ofBits_zero_f32

end Cert.Staged

end
-- ==== Proof.Tap.lean ====
/-
  One tap of the convolution on the extended reals, with nothing of either program: the clipped ramp both programs
  apply to an entry of the patch, the kernel's form of a tap (the middle value plus two clipped ramps), the reference's
  (a search of the interval, with the two ends held), and when the two agree.
-/
module

public import Idealize.ShloMosaic.Lib.IdealHost
public import Idealize.ShloMosaic.PureOps.Ideal

@[expose] public section

noncomputable section

namespace Cert.Tap

open Idealize.ShloMosaic

/-- The guard both programs add to a difference of breakpoints: the f32 nearest to 10⁻⁶, exactly. -/
def guard : EReal := Ideal.ofBits .f32 0x358637BD#32

/-- The guard is a positive real number. -/
theorem guard_pos : ∃ e : ℝ, 0 < e ∧ guard = (e : EReal) := by
  refine ⟨8796093 * (2 : ℝ) ^ (-43 : Int), by positivity, ?_⟩
  unfold guard
  simp [Ideal.ofBits, Ideal.ieee, -EReal.coe_mul]

/-- The clipped ramp from breakpoint `p` to breakpoint `q`: `0` up to `p`, then rising, never above `1`. -/
def ramp (x p q : EReal) : EReal := min 1 (max 0 (Ideal.div (x - p) (q - p + guard)))

/-- The kernel's tap: the middle value, and a multiple of each difference from it. -/
def kernelTap (x : EReal) (p v : Fin 3 → EReal) : EReal :=
  ((v 0 - v 1) * (1 - ramp x (p 0) (p 1)) + (v 2 - v 1) * ramp x (p 1) (p 2)) + v 1

/-- The reference's tap: the end values outside the grid, else linear interpolation on the interval of `x`. -/
def refTap (x : EReal) (p v : Fin 3 → EReal) : EReal :=
  if p 2 ≤ x then v 2 else if x ≤ p 0 then v 0 else
  if p 1 ≤ x then (if p 1 = p 2 then v 1 else v 1 + ramp x (p 1) (p 2) * (v 2 - v 1))
  else (if p 0 = p 1 then v 0 else v 0 + ramp x (p 0) (p 1) * (v 1 - v 0))

/-- `x` lies in neither interval of one guard's length above the second and above the third breakpoint. -/
def Clear (x : EReal) (p : Fin 3 → EReal) : Prop :=
  ¬(p 1 ≤ x ∧ x < p 1 + guard) ∧ ¬(p 2 ≤ x ∧ x < p 2 + guard)

/-- The precondition on one weight's numbers: real breakpoints in order, real values. -/
structure Grid (p v : Fin 3 → EReal) : Prop where
  le01 : p 0 ≤ p 1
  le12 : p 1 ≤ p 2
  p_real : ∀ k, ∃ r : ℝ, p k = (r : EReal)
  v_real : ∀ k, ∃ r : ℝ, v k = (r : EReal)

/-- A ramp's divisor, when the breakpoints are real and in order, is a positive real number. -/
theorem divisor {p q : ℝ} (h : p ≤ q) : ∃ d : ℝ, 0 < d ∧ ((q : EReal) - p + guard) = (d : EReal)
    ∧ ∀ y : ℝ, ((q : EReal) + guard ≤ (y : EReal) ↔ p + d ≤ y) := by
  obtain ⟨e, he, hg⟩ := guard_pos
  refine ⟨q - p + e, by linarith, by rw [hg]; norm_cast, fun y => ?_⟩
  rw [hg, ← EReal.coe_add, EReal.coe_le_coe_iff]
  constructor <;> intro h' <;> linarith

/-- A ramp is a real number. -/
theorem ramp_real (x p q : EReal) : ∃ r : ℝ, ramp x p q = (r : EReal) := by
  have h0 : (0 : EReal) ≤ ramp x p q := le_min zero_le_one (le_max_left _ _)
  have h1 : ramp x p q ≤ (1 : EReal) := min_le_left _ _
  refine ⟨(ramp x p q).toReal, (EReal.coe_toReal ?_ ?_).symm⟩
  · intro h; rw [h] at h1; exact absurd h1 (not_le.mpr (EReal.coe_lt_top 1))
  · intro h; rw [h] at h0; exact absurd h0 (by simp)

/-- Up to its first breakpoint a ramp is `0`. -/
theorem ramp_zero {x : EReal} {p q : ℝ} (h : p ≤ q) (hx : x ≤ (p : EReal)) : ramp x p q = 0 := by
  obtain ⟨d, hd, he, -⟩ := divisor h
  have hd0 : ((d : ℝ) : EReal) ≠ 0 := by exact_mod_cast hd.ne'
  unfold ramp
  rw [he, Ideal.div, if_neg hd0, ← EReal.coe_inv]
  have hsub : x - (p : EReal) ≤ 0 := EReal.sub_nonpos.mpr hx
  have : (x - (p : EReal)) * ((d⁻¹ : ℝ) : EReal) ≤ 0 :=
    mul_nonpos_of_nonpos_of_nonneg hsub (by exact_mod_cast (inv_pos.mpr hd).le)
  rw [max_eq_left this, min_eq_right zero_le_one]

/-- From one guard past its second breakpoint a ramp is `1`. -/
theorem ramp_one {x : EReal} {p q : ℝ} (h : p ≤ q) (hx : (q : EReal) + guard ≤ x) : ramp x p q = 1 := by
  obtain ⟨d, hd, he, hy⟩ := divisor h
  have hd0 : ((d : ℝ) : EReal) ≠ 0 := by exact_mod_cast hd.ne'
  unfold ramp
  rw [he, Ideal.div, if_neg hd0, ← EReal.coe_inv]
  have h1 : (1 : EReal) ≤ (x - (p : EReal)) * ((d⁻¹ : ℝ) : EReal) := by
    induction x with
    | bot =>
      obtain ⟨e, -, hg⟩ := guard_pos
      rw [hg, ← EReal.coe_add] at hx
      exact absurd hx (by simp)
    | top => rw [EReal.top_sub_coe, EReal.top_mul_coe_of_pos (inv_pos.mpr hd)]; exact le_top
    | coe y =>
      have := (hy y).mp hx
      rw [← EReal.coe_sub, ← EReal.coe_mul, ← EReal.coe_one, EReal.coe_le_coe_iff]
      rw [← div_eq_mul_inv, le_div_iff₀ hd]; linarith
  rw [min_eq_left (h1.trans (le_max_right _ _))]

/-- The kernel's tap of real numbers is a real number, the expression read over the reals. -/
theorem real_tap (a b c t s : ℝ) :
    (((a : EReal) - b) * (1 - (t : EReal)) + ((c : EReal) - b) * s) + b
      = (((a - b) * (1 - t) + (c - b) * s + b : ℝ) : EReal) := by
  norm_cast

/-- THE TWO TAPS AGREE on a real ordered grid wherever `x` is clear of the guards. -/
theorem kernelTap_eq_refTap {x : EReal} {p v : Fin 3 → EReal} (g : Grid p v) (hx : Clear x p) :
    kernelTap x p v = refTap x p v := by
  obtain ⟨p0, e0⟩ := g.p_real 0
  obtain ⟨p1, e1⟩ := g.p_real 1
  obtain ⟨p2, e2⟩ := g.p_real 2
  obtain ⟨v0, f0⟩ := g.v_real 0
  obtain ⟨v1, f1⟩ := g.v_real 1
  obtain ⟨v2, f2⟩ := g.v_real 2
  have h01 := g.le01
  have h12 := g.le12
  obtain ⟨c1, c2⟩ := hx
  unfold kernelTap refTap
  rw [e0, e1] at h01; rw [e1, e2] at h12
  rw [e1] at c1; rw [e2] at c2
  rw [e0, e1, e2, f0, f1, f2]
  have k01 := EReal.coe_le_coe_iff.mp h01
  have k12 := EReal.coe_le_coe_iff.mp h12
  have up1 : (p1 : EReal) ≤ x → ramp x p0 p1 = 1 := fun h => ramp_one k01 (not_lt.mp fun h' => c1 ⟨h, h'⟩)
  have up2 : (p2 : EReal) ≤ x → ramp x p1 p2 = 1 := fun h => ramp_one k12 (not_lt.mp fun h' => c2 ⟨h, h'⟩)
  obtain ⟨t, ht⟩ := ramp_real x p0 p1
  obtain ⟨s, hs⟩ := ramp_real x p1 p2
  rw [ht, hs, real_tap]
  have one : ∀ {r : ℝ}, (r : EReal) = 1 → r = 1 := fun h => by exact_mod_cast h
  have zero : ∀ {r : ℝ}, (r : EReal) = 0 → r = 0 := fun h => by exact_mod_cast h
  split_ifs with a b c d d
  · rw [one (ht.symm.trans (up1 (h12.trans a))), one (hs.symm.trans (up2 a))]; exact congrArg Real.toEReal (by ring)
  · rw [zero (ht.symm.trans (ramp_zero k01 b)), zero (hs.symm.trans (ramp_zero k12 (b.trans h01)))]; exact congrArg Real.toEReal (by ring)
  · exact absurd (d ▸ c) a
  · rw [one (ht.symm.trans (up1 c))]; rw [← EReal.coe_sub, ← EReal.coe_mul, ← EReal.coe_add]; exact congrArg Real.toEReal (by ring)
  · exact absurd (not_le.mp c).le (d ▸ b)
  · rw [zero (hs.symm.trans (ramp_zero k12 (not_le.mp c).le))]; rw [← EReal.coe_sub, ← EReal.coe_mul, ← EReal.coe_add]; exact congrArg Real.toEReal (by ring)

/-- The kernel's tap is the first value plus two ramps, each times the step to the next value: no assumption on `x`. -/
theorem kernelTap_eq_ramps {x : EReal} {p v : Fin 3 → EReal} (g : Grid p v) :
    kernelTap x p v = v 0 + ramp x (p 0) (p 1) * (v 1 - v 0) + ramp x (p 1) (p 2) * (v 2 - v 1) := by
  obtain ⟨v0, f0⟩ := g.v_real 0
  obtain ⟨v1, f1⟩ := g.v_real 1
  obtain ⟨v2, f2⟩ := g.v_real 2
  obtain ⟨t, ht⟩ := ramp_real x (p 0) (p 1)
  obtain ⟨s, hs⟩ := ramp_real x (p 1) (p 2)
  unfold kernelTap
  rw [f0, f1, f2, ht, hs, real_tap]; norm_cast; ring

end Cert.Tap

end
-- ==== Proof.Basis.lean ====
/-
  The right operand of the kernel's three products: over the staged image, `1 -` the first ramp and then the second, each
  channel a row; below them the same rows moved two columns (one pixel) and four columns (two pixels) to the left.
-/
module

public import proofs.«01_k».proof.Proof.Staged
public import proofs.«01_k».proof.Proof.Tap
public import Idealize.ShloMosaic.Lib.KernelVsHost

@[expose] public section

noncomputable section

namespace Cert.Basis

open Cert.KernelIdeal Cert.KernelIdeal.Gen Cert.Tap Cert.Staged Idealize.ShloMosaic Idealize.ShloMosaic.ValueIdx

/-- The ramp as the kernel computes it: a product with the reciprocal of the divisor. -/
def slope (x p q : EReal) : EReal := min 1 (max 0 ((x - p) * Ideal.div 1 (q - p + guard)))

/-- Where the divisor is not zero, that is the ramp. -/
theorem slope_eq_ramp {x p q : EReal} (h : q - p + guard ≠ 0) : slope x p q = ramp x p q := by
  unfold slope ramp
  rw [Ideal.mul_one_div h]

/-! ## The rows and their two copies -/

/-- A rotation by `1800 - n` columns reads `n` columns to the right, as long as that stays inside. -/
theorem rotated {R : ℕ} (s n : ℕ) (sb : BitVec 32) (hs : sb.toNat = s) (hn : s + n = 1800) (hn0 : 0 < n)
    (B : (⟨2, ![R, 1800]⟩ : Shape).Idx → EReal)
    (h : (⟨2, ![R, 1800]⟩ : Shape).Rotates 1 none) (m : Fin R) (q q' : Fin 1800) (hq : q.val + n = q'.val) :
    dynamicRotate 1 sb none B h (ix2 m q) = B (ix2 m q') := by
  have hlt := q'.isLt
  refine dynamicRotate_apply (1 : Fin 2) sb B h _ _ fun b => ?_
  match b with
  | ⟨0, _⟩ => rfl
  | ⟨1, _⟩ =>
    show q'.val = (q.val + 1800 - sb.toNat % 1800) % 1800
    rw [hs, Nat.mod_eq_of_lt (show s < 1800 by omega)]
    omega

/-- The three copies one under the other: row `64 c + m` in column `q` is row `m` in column `q + 2 c`. -/
theorem copies (B : FVec Ideal S64x1800 .bf16) (c : Fin 3) (m : Fin 64) (q q' : Fin 1800) (hq : q.val + 2 * c.val = q'.val) :
    concatenate S192x1800 0 [⟨S64x1800, B⟩, ⟨S64x1800, dynamicRotate 1 1798#32 none B rotates_S64x1800_d1⟩,
        ⟨S64x1800, dynamicRotate 1 1796#32 none B rotates_S64x1800_d1⟩]
        concatenates_S64x1800_S64x1800_S64x1800_S192x1800_d0 (ix2 (⟨64 * c.val + m.val, by omega⟩ : Fin 192) q)
      = B (ix2 m q') := by
  have off : ∀ b : Fin 2, b ≠ 0 → ∀ n : Fin 192, ((ix2 m q : S64x1800.Idx) b).val = ((ix2 n q : S192x1800.Idx) b).val := by
    intro b hb n
    match b with
    | ⟨0, _⟩ => exact absurd rfl hb
    | ⟨1, _⟩ => rfl
  have three : ∀ c : Fin 3, c = 0 ∨ c = 1 ∨ c = 2 := by decide
  rcases three c with rfl | rfl | rfl
  · refine (concatenate_apply_piece (t := S192x1800) 0 _ _ _ 0 (by simp) S64x1800 _ rfl rfl 0 rfl (ix2 m q)
      (fun b hb => off b hb _) (by show 0 + m.val = 64 * 0 + m.val; omega)).trans ?_
    exact congrArg (fun z => B (ix2 m z)) (Fin.ext hq)
  · refine (concatenate_apply_piece (t := S192x1800) 0 _ _ _ 1 (by simp) S64x1800 _ rfl rfl 64 rfl (ix2 m q)
      (fun b hb => off b hb _) (by show 64 + m.val = 64 * 1 + m.val; omega)).trans ?_
    exact rotated 1798 2 _ rfl rfl (by omega) B _ m q q' hq
  · refine (concatenate_apply_piece (t := S192x1800) 0 _ _ _ 2 (by simp) S64x1800 _ rfl rfl 128 rfl (ix2 m q)
      (fun b hb => off b hb _) (by show 128 + m.val = 64 * 2 + m.val; omega)).trans ?_
    exact rotated 1796 4 _ rfl rfl (by omega) B _ m q q' hq

/-- Of two 32-row blocks one under the other, the upper. -/
theorem upper (U L : FVec Ideal S32x1800 .f32) (ch : Fin 32) (q : Fin 1800) :
    concatenate S64x1800 0 [⟨S32x1800, U⟩, ⟨S32x1800, L⟩] concatenates_S32x1800_S32x1800_S64x1800_d0
      (ix2 (⟨ch.val, by omega⟩ : Fin 64) q) = U (ix2 ch q) :=
  concatenate_apply_piece (t := S64x1800) 0 _ _ _ 0 (by simp) S32x1800 _ rfl rfl 0 rfl (ix2 ch q)
    (fun b hb => by
      match b with
      | ⟨0, _⟩ => exact absurd rfl hb
      | ⟨1, _⟩ => rfl) (by show 0 + ch.val = ch.val; omega)

/-- Of two 32-row blocks one under the other, the lower. -/
theorem lower (U L : FVec Ideal S32x1800 .f32) (ch : Fin 32) (q : Fin 1800) :
    concatenate S64x1800 0 [⟨S32x1800, U⟩, ⟨S32x1800, L⟩] concatenates_S32x1800_S32x1800_S64x1800_d0
      (ix2 (⟨32 + ch.val, by omega⟩ : Fin 64) q) = L (ix2 ch q) :=
  concatenate_apply_piece (t := S64x1800) 0 _ _ _ 1 (by simp) S32x1800 _ rfl rfl 32 rfl (ix2 ch q)
    (fun b hb => by
      match b with
      | ⟨0, _⟩ => exact absurd rfl hb
      | ⟨1, _⟩ => rfl) rfl

/-! ## The breakpoints -/

/-- The three breakpoints, read from the positions' array: its entries in rows 0, 32 and 64 of column 0. -/
def grid (x1 : S864x32.Idx → EReal) (k : Fin 3) : EReal := x1 (ix2 (⟨32 * k.val, by omega⟩ : Fin 864) 0)

variable (c : Dev nD) (arg0 : Memref sig .tc .vmem S1568x32 .f32) (harg0 : arg0.IsWhole)
  (arg1 : Memref sig .tc .vmem S864x32 .f32) (harg1 : arg1.IsWhole) (arg4 : Memref sig .tc .vmem S32x1800 .f32)
  (x0 : Vec Ideal S1568x32 .f32) (x1 : Vec Ideal S864x32 .f32)

/-- A one-entry load of the positions. -/
theorem load_point (k : Fin 3) (inb) : extractAt ![0, 0] (View.readAt (Elt Ideal) arg1.view
      (Rect.unit (s := S864x32) ![32 * k.val, 0] S1x1.size inb).toLoadRect (harg1.unread x1)) inpos_S1x1_p0_0 = grid x1 k := by
  rw [View.readAt_eq_ld, harg1.read_unread]
  refine congrArg x1 (funext fun a => Fin.ext ?_)
  match a with
  | ⟨0, _⟩ => rfl
  | ⟨1, _⟩ => rfl

theorem point0 : kernelRun0_A.sl.r c arg1 harg1 x1 = grid x1 0 := load_point arg1 harg1 x1 0 _
theorem point1 : kernelRun0_A.sl.r_1 c arg1 harg1 x1 = grid x1 1 := load_point arg1 harg1 x1 1 _

/-- The reciprocal of the first divisor. -/
theorem recip01 : kernelRun0_A.sl.r_2 c arg1 harg1 x1 = Ideal.div 1 (grid x1 1 - grid x1 0 + guard) := by
  have h0 := load_point arg1 harg1 x1 0 inb_S864x32_S1x1_0_0
  have h1 := load_point arg1 harg1 x1 1 inb_S864x32_S1x1_32_0
  refine Eq.trans (b := Ideal.div (Ideal.ofBits .f32 0x3F800000#32) (_ - _ + guard)) rfl ?_
  rw [Ideal.ofBits_one_f32]
  exact congrArg₂ (fun a b => Ideal.div 1 (a - b + guard)) h1 h0

/-- The reciprocal of the second divisor. -/
theorem recip12 : kernelRun0_A.sl.r_3 c arg1 harg1 x1 = Ideal.div 1 (grid x1 2 - grid x1 1 + guard) := by
  have h1 := load_point arg1 harg1 x1 1 inb_S864x32_S1x1_32_0
  have h2 := load_point arg1 harg1 x1 2 inb_S864x32_S1x1_64_0
  refine Eq.trans (b := Ideal.div (Ideal.ofBits .f32 0x3F800000#32) (_ - _ + guard)) rfl ?_
  rw [Ideal.ofBits_one_f32]
  exact congrArg₂ (fun a b => Ideal.div 1 (a - b + guard)) h2 h1

/-! ## The operand -/

/-- The rows `1 -` first ramp: row `64 c + ch` in column `q`. -/
theorem first_apply (d : Fin 3) (ch : Fin 32) (q q' : Fin 1800) (hq : q.val + 2 * d.val = q'.val) :
    kernelRun0_A.sl.r_9 c arg0 harg0 arg1 harg1 arg4 x0 x1 (ix2 (⟨64 * d.val + ch.val, by omega⟩ : Fin 192) q)
      = 1 - slope (cols x0 ch q'.val) (grid x1 0) (grid x1 1) := by
  unfold kernelRun0_A.sl.r_9 k0_pay43
  dsimp only
  refine (copies _ d ⟨ch.val, by omega⟩ q q' hq).trans ?_
  refine (upper _ _ ch q').trans ?_
  unfold kernelRun0_A.sl.r_8 k0_pay42 kernelRun0_A.sl.cst_41 kernelRun0_A.sl.cst_42
  dsimp only
  rw [point0, recip01]
  refine Eq.trans (b := Ideal.ofBits .f32 0x3F800000#32 - min (Ideal.ofBits .f32 0x3F800000#32)
    (max (Ideal.ofBits .f32 0#32) ((kernelRun0_A.sl.v131 c arg0 harg0 arg4 x0 (ix2 ch q') - grid x1 0)
      * Ideal.div 1 (grid x1 1 - grid x1 0 + guard)))) rfl ?_
  rw [Ideal.ofBits_one_f32, Ideal.ofBits_zero_f32, staged_apply]
  rfl

/-- The rows of the second ramp: row `64 c + 32 + ch` in column `q`. -/
theorem second_apply (d : Fin 3) (ch : Fin 32) (q q' : Fin 1800) (hq : q.val + 2 * d.val = q'.val) :
    kernelRun0_A.sl.r_9 c arg0 harg0 arg1 harg1 arg4 x0 x1 (ix2 (⟨64 * d.val + (32 + ch.val), by omega⟩ : Fin 192) q)
      = slope (cols x0 ch q'.val) (grid x1 1) (grid x1 2) := by
  unfold kernelRun0_A.sl.r_9 k0_pay43
  dsimp only
  refine (copies _ d ⟨32 + ch.val, by omega⟩ q q' hq).trans ?_
  refine (lower _ _ ch q').trans ?_
  rw [point1, recip12]
  refine Eq.trans (b := min (Ideal.ofBits .f32 0x3F800000#32)
    (max (Ideal.ofBits .f32 0#32) ((kernelRun0_A.sl.v131 c arg0 harg0 arg4 x0 (ix2 ch q') - grid x1 1)
      * Ideal.div 1 (grid x1 2 - grid x1 1 + guard)))) rfl ?_
  rw [Ideal.ofBits_one_f32, Ideal.ofBits_zero_f32, staged_apply]
  rfl

end Cert.Basis

end
-- ==== Proof.Weights.lean ====
/-
  The left operands of the kernel's three products, and its bias. A left operand is six 32 × 32 blocks side by side: for each
  column offset the differences of the outer values from the middle one, an entry for each output channel (row) and input
  channel (column). The bias sums the middle values.
-/
module

public import proofs.«01_k».proof.Proof.Gen.KernelIdeal.Frame
public import Idealize.ShloMosaic.Lib.Pipeline.Value
public import Idealize.ShloMosaic.Lib.ValueIdx
public import Idealize.ShloMosaic.PureOps.Ideal
public import Idealize.ShloMosaic.Lib.Pointwise.Reduce

@[expose] public section

noncomputable section

namespace Cert.Weights

open Cert.KernelIdeal Cert.KernelIdeal.Gen Idealize.ShloMosaic

/-- The value of breakpoint `k` for the tap in row `r` and column `d` of the window, output channel `o` and input channel
    `ch`, read from the values' array. -/
def value (x2 : S864x32.Idx → EReal) (r d k : Fin 3) (o ch : Fin 32) : EReal :=
  x2 (ValueIdx.ix2 (⟨(3 * r.val + d.val) * 96 + 32 * k.val + o.val, by omega⟩ : Fin 864) ch)

variable (c : Dev nD) (arg2 : Memref sig .tc .vmem S864x32 .f32) (harg2 : arg2.IsWhole) (x2 : Vec Ideal S864x32 .f32)

/-- A load of 32 rows of the values. -/
theorem load_apply (n : ℕ) (inb) (r d k : Fin 3) (hn : n = (3 * r.val + d.val) * 96 + 32 * k.val) (o ch : Fin 32) :
    View.readAt (Elt Ideal) arg2.view (Rect.unit (s := S864x32) ![n, 0] S32x32.size inb).toLoadRect (harg2.unread x2)
      (ValueIdx.ix2 o ch) = value x2 r d k o ch := by
  subst hn
  rw [View.readAt_eq_ld, harg2.read_unread]
  refine congrArg x2 (funext fun a => Fin.ext ?_)
  match a with
  | ⟨0, _⟩ => show (3 * r.val + d.val) * 96 + 32 * k.val + 1 * o.val = (3 * r.val + d.val) * 96 + 32 * k.val + o.val; omega
  | ⟨1, _⟩ => show 0 + 1 * ch.val = ch.val; omega

/-- Six blocks side by side: block `n` holds the columns from `32 n` on. -/
theorem blocks (B : Fin 6 → FVec Ideal S32x32 .f32)
    (hc : Shape.Concatenates [S32x32, S32x32, S32x32, S32x32, S32x32, S32x32] S32x192 1) (n : Fin 6) (o ch : Fin 32) (k : Fin 192)
    (hk : k.val = 32 * n.val + ch.val) :
    concatenate S32x192 1 [⟨S32x32, B 0⟩, ⟨S32x32, B 1⟩, ⟨S32x32, B 2⟩, ⟨S32x32, B 3⟩, ⟨S32x32, B 4⟩, ⟨S32x32, B 5⟩] hc
      (ValueIdx.ix2 o k) = B n (ValueIdx.ix2 o ch) := by
  have six : ∀ n : Fin 6, n = 0 ∨ n = 1 ∨ n = 2 ∨ n = 3 ∨ n = 4 ∨ n = 5 := by decide
  have off : ∀ b : Fin 2, b ≠ 1 → ((ValueIdx.ix2 o ch : S32x32.Idx) b).val = ((ValueIdx.ix2 o k : S32x192.Idx) b).val := by
    intro b hb
    match b with
    | ⟨0, _⟩ => rfl
    | ⟨1, _⟩ => exact absurd rfl hb
  rcases six n with rfl | rfl | rfl | rfl | rfl | rfl
  · exact concatenate_apply_piece (t := S32x192) 1 _ _ _ 0 (by simp) S32x32 _ rfl rfl 0 rfl (ValueIdx.ix2 o ch) off hk.symm
  · exact concatenate_apply_piece (t := S32x192) 1 _ _ _ 1 (by simp) S32x32 _ rfl rfl 32 rfl (ValueIdx.ix2 o ch) off hk.symm
  · exact concatenate_apply_piece (t := S32x192) 1 _ _ _ 2 (by simp) S32x32 _ rfl rfl 64 rfl (ValueIdx.ix2 o ch) off hk.symm
  · exact concatenate_apply_piece (t := S32x192) 1 _ _ _ 3 (by simp) S32x32 _ rfl rfl 96 rfl (ValueIdx.ix2 o ch) off hk.symm
  · exact concatenate_apply_piece (t := S32x192) 1 _ _ _ 4 (by simp) S32x32 _ rfl rfl 128 rfl (ValueIdx.ix2 o ch) off hk.symm
  · exact concatenate_apply_piece (t := S32x192) 1 _ _ _ 5 (by simp) S32x32 _ rfl rfl 160 rfl (ValueIdx.ix2 o ch) off hk.symm

/-- What a left operand holds: the differences for the window's row `r`, two blocks for each column offset `d`. -/
structure Left (x2 : S864x32.Idx → EReal) (r : Fin 3) (L : FVec Ideal S32x192 .bf16) : Prop where
  first : ∀ (d : Fin 3) (o ch : Fin 32), L (ValueIdx.ix2 o ⟨64 * d.val + ch.val, by omega⟩)
    = value x2 r d 0 o ch - value x2 r d 1 o ch
  second : ∀ (d : Fin 3) (o ch : Fin 32), L (ValueIdx.ix2 o ⟨64 * d.val + (32 + ch.val), by omega⟩)
    = value x2 r d 2 o ch - value x2 r d 1 o ch

/-- Six blocks of differences, in the order of the column offsets, make a left operand. -/
theorem left_of (r : Fin 3) (a₀ b₀ a₁ b₁ a₂ b₂ : FVec Ideal S32x32 .f32)
    (hc : Shape.Concatenates [S32x32, S32x32, S32x32, S32x32, S32x32, S32x32] S32x192 1) (hb : FTy.bits .bf16 < FTy.bits .f32)
    (ha₀ : ∀ o ch, a₀ (ValueIdx.ix2 o ch) = value x2 r 0 0 o ch - value x2 r 0 1 o ch)
    (hb₀ : ∀ o ch, b₀ (ValueIdx.ix2 o ch) = value x2 r 0 2 o ch - value x2 r 0 1 o ch)
    (ha₁ : ∀ o ch, a₁ (ValueIdx.ix2 o ch) = value x2 r 1 0 o ch - value x2 r 1 1 o ch)
    (hb₁ : ∀ o ch, b₁ (ValueIdx.ix2 o ch) = value x2 r 1 2 o ch - value x2 r 1 1 o ch)
    (ha₂ : ∀ o ch, a₂ (ValueIdx.ix2 o ch) = value x2 r 2 0 o ch - value x2 r 2 1 o ch)
    (hb₂ : ∀ o ch, b₂ (ValueIdx.ix2 o ch) = value x2 r 2 2 o ch - value x2 r 2 1 o ch) :
    Left x2 r (truncf .bf16 (concatenate S32x192 1
      [⟨S32x32, a₀⟩, ⟨S32x32, b₀⟩, ⟨S32x32, a₁⟩, ⟨S32x32, b₁⟩, ⟨S32x32, a₂⟩, ⟨S32x32, b₂⟩] hc) hb) where
  first d o ch := by
    have three : ∀ d : Fin 3, d = 0 ∨ d = 1 ∨ d = 2 := by decide
    rcases three d with rfl | rfl | rfl
    · exact (blocks ![a₀, b₀, a₁, b₁, a₂, b₂] hc 0 o ch _ rfl).trans (ha₀ o ch)
    · exact (blocks ![a₀, b₀, a₁, b₁, a₂, b₂] hc 2 o ch _ rfl).trans (ha₁ o ch)
    · exact (blocks ![a₀, b₀, a₁, b₁, a₂, b₂] hc 4 o ch _ rfl).trans (ha₂ o ch)
  second d o ch := by
    have three : ∀ d : Fin 3, d = 0 ∨ d = 1 ∨ d = 2 := by decide
    rcases three d with rfl | rfl | rfl
    · exact (blocks ![a₀, b₀, a₁, b₁, a₂, b₂] hc 1 o ch _ (by show 64 * 0 + (32 + ch.val) = 32 * 1 + ch.val; omega)).trans (hb₀ o ch)
    · exact (blocks ![a₀, b₀, a₁, b₁, a₂, b₂] hc 3 o ch _ (by show 64 * 1 + (32 + ch.val) = 32 * 3 + ch.val; omega)).trans (hb₁ o ch)
    · exact (blocks ![a₀, b₀, a₁, b₁, a₂, b₂] hc 5 o ch _ (by show 64 * 2 + (32 + ch.val) = 32 * 5 + ch.val; omega)).trans (hb₂ o ch)

/-- A difference of two loads. -/
theorem difference (n n' : ℕ) (inb inb') (r d k k' : Fin 3) (hn : n = (3 * r.val + d.val) * 96 + 32 * k.val)
    (hn' : n' = (3 * r.val + d.val) * 96 + 32 * k'.val) (h h' : S32x32.ShapeCasts S32x32) (o ch : Fin 32) :
    (subf (shapeCast S32x32 (View.readAt (Elt Ideal) arg2.view (Rect.unit (s := S864x32) ![n, 0] S32x32.size inb).toLoadRect
        (harg2.unread x2)) h)
      (shapeCast S32x32 (View.readAt (Elt Ideal) arg2.view (Rect.unit (s := S864x32) ![n', 0] S32x32.size inb').toLoadRect
        (harg2.unread x2)) h') : FVec Ideal S32x32 .f32) (ValueIdx.ix2 o ch) = value x2 r d k o ch - value x2 r d k' o ch := by
  exact congrArg₂ (fun a b : EReal => a - b)
    ((congrFun (shapeCast_self _ h) _).trans (load_apply arg2 harg2 x2 n inb r d k hn o ch))
    ((congrFun (shapeCast_self _ h') _).trans (load_apply arg2 harg2 x2 n' inb' r d k' hn' o ch))

/-- The left operand for the window's row 1. -/
theorem left1 : Left x2 1 (kernelRun0_A.sl.r_19 c arg2 harg2 x2) := by
  unfold kernelRun0_A.sl.r_19 k0_pay58 k0_pay54 k0_pay55 k0_pay56
  dsimp only
  exact left_of x2 1 _ _ _ _ _ _ _ _
    (difference arg2 harg2 x2 _ _ _ _ 1 0 0 1 rfl rfl _ _) (difference arg2 harg2 x2 _ _ _ _ 1 0 2 1 rfl rfl _ _)
    (difference arg2 harg2 x2 _ _ _ _ 1 1 0 1 rfl rfl _ _) (difference arg2 harg2 x2 _ _ _ _ 1 1 2 1 rfl rfl _ _)
    (difference arg2 harg2 x2 _ _ _ _ 1 2 0 1 rfl rfl _ _) (difference arg2 harg2 x2 _ _ _ _ 1 2 2 1 rfl rfl _ _)

/-! ## The bias -/

/-- The bias of output channel `o`: the middle values of its 288 weights. -/
theorem bias_apply (o : Fin 32) : kernelRun0_A.sl.r_21 c arg2 harg2 x2 (ValueIdx.ix2 o 0)
    = ∑ ch : Fin 32, ∑ r : Fin 3, ∑ d : Fin 3, value x2 r d 1 o ch := by
  unfold kernelRun0_A.sl.r_21 k0_pay63 kernelRun0_A.sl.r_18 k0_pay57 kernelRun0_A.sl.r_14 k0_pay50 kernelRun0_A.sl.r_16
    k0_pay44 k0_pay47 k0_pay52 k0_pay54 k0_pay55 k0_pay56 k0_pay59 k0_pay60 k0_pay61
  dsimp only
  simp only [shapeCast_self]
  refine (shapeCast_apply _ _ (ValueIdx.ix2 o 0) (ValueIdx.ix1 o) (by
    rw [Shape.rowMajor_val_two, Shape.rowMajor_val_one]; show o.val = o.val * 1 + 0; omega)).trans ?_
  refine Eq.trans (b := Ideal.reduceAdd reduces_S32x32_S32 _ (ValueIdx.ix1 o)) rfl ?_
  refine (Ideal.reduceAdd_r2_a1 _ _ _).trans ?_
  refine Finset.sum_congr rfl fun ch _ => ?_
  simp only [Fin.sum_univ_three]
  have l := fun n inb r d hn => load_apply arg2 harg2 x2 n inb r d 1 hn o ch
  have e := congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
    (congrArg₂ (fun a b : EReal => a + b) (congrArg₂ (fun a b : EReal => a + b)
      (l 32 inb_S864x32_S32x32_32_0 0 0 rfl) (l 128 inb_S864x32_S32x32_128_0 0 1 rfl))
      (l 224 inb_S864x32_S32x32_224_0 0 2 rfl)) (l 320 inb_S864x32_S32x32_320_0 1 0 rfl))
      (l 416 inb_S864x32_S32x32_416_0 1 1 rfl)) (l 512 inb_S864x32_S32x32_512_0 1 2 rfl))
      (l 608 inb_S864x32_S32x32_608_0 2 0 rfl)) (l 704 inb_S864x32_S32x32_704_0 2 1 rfl))
      (l 800 inb_S864x32_S32x32_800_0 2 2 rfl)
  refine Eq.trans ?_ (e.trans ?_)
  · rfl
  · simp only [add_assoc]

end Cert.Weights

end
-- ==== Proof.Product.lean ====
/-
  The kernel's three products and their sum: at an output channel and a column of the staged image that keeps clear of its
  end, the sum over the window's nine places and the 32 input channels of the two differences times the two ramps, plus the
  bias.
-/
module

public import proofs.«01_k».proof.Proof.Basis
public import proofs.«01_k».proof.Proof.Weights
public import Idealize.ShloMosaic.Lib.Pointwise.Contract

@[expose] public section

noncomputable section

namespace Cert.Product

open Cert.KernelIdeal Cert.KernelIdeal.Gen Cert.Staged Cert.Basis Cert.Weights Idealize.ShloMosaic

/-- A sum over the 192 rows of the right operand, by column offset and channel. -/
theorem sum_rows (f : Fin 192 → EReal) : ∑ k, f k = ∑ d : Fin 3, ∑ ch : Fin 32,
    (f ⟨64 * d.val + ch.val, by omega⟩ + f ⟨64 * d.val + (32 + ch.val), by omega⟩) := by
  rw [← Equiv.sum_comp (finProdFinEquiv (m := 3) (n := 64)) f, Fintype.sum_prod_type]
  refine Finset.sum_congr rfl fun d _ => ?_
  rw [Finset.sum_add_distrib]
  rw [← Equiv.sum_comp (finProdFinEquiv (m := 2) (n := 32)) fun m : Fin 64 => f (finProdFinEquiv (d, m)), Fintype.sum_prod_type,
    Fin.sum_univ_two]
  refine congrArg₂ (· + ·) (Finset.sum_congr rfl fun ch _ => congrArg f (Fin.ext ?_))
    (Finset.sum_congr rfl fun ch _ => congrArg f (Fin.ext ?_))
  · show ch.val + 32 * 0 + 64 * d.val = 64 * d.val + ch.val
    omega
  · show ch.val + 32 * 1 + 64 * d.val = 64 * d.val + (32 + ch.val)
    omega

/-- A product at an index. -/
theorem dot_apply (L : FVec Ideal S32x192 .bf16) (R : FVec Ideal S192x1800 .bf16) (o : Fin 32) (q : Fin 1800) :
    matmul dot_S32x192_S192x1800_S32x1800_1_0_0_1_n_n none L R (constant (F := Ideal) S32x1800 .f32 0x00000000#32)
      (ValueIdx.ix2 o q) = ∑ k : Fin 192, L (ValueIdx.ix2 o k) * R (ValueIdx.ix2 k q) := by
  refine (Ideal.matmul_apply₁ dot_S32x192_S192x1800_S32x1800_1_0_0_1_n_n rfl rfl L R _ (ValueIdx.ix2 o q)).trans ?_
  refine (congrArg (· + _) (Ideal.ofBits_zero_f32)).trans ((zero_add _).trans (Finset.sum_congr rfl fun k _ => ?_))
  exact congrArg₂ (fun a b : EReal => a * b)
    (congrArg L (funext fun a => by
      match a with
      | ⟨0, _⟩ => rfl
      | ⟨1, _⟩ => rfl))
    (congrArg R (funext fun a => by
      match a with
      | ⟨0, _⟩ => rfl
      | ⟨1, _⟩ => rfl))

/-- The term of one place of the window and one channel, at column `q` of the staged image. -/
def term (x0 : S1568x32.Idx → EReal) (x1 x2 : S864x32.Idx → EReal) (r d : Fin 3) (o ch : Fin 32) (q : ℕ) : EReal :=
  (value x2 r d 0 o ch - value x2 r d 1 o ch) * (1 - slope (cols x0 ch q) (grid x1 0) (grid x1 1))
    + (value x2 r d 2 o ch - value x2 r d 1 o ch) * slope (cols x0 ch q) (grid x1 1) (grid x1 2)

variable (c : Dev nD) (arg0 : Memref sig .tc .vmem S1568x32 .f32) (harg0 : arg0.IsWhole)
  (arg1 : Memref sig .tc .vmem S864x32 .f32) (harg1 : arg1.IsWhole) (arg2 : Memref sig .tc .vmem S864x32 .f32)
  (harg2 : arg2.IsWhole) (arg4 : Memref sig .tc .vmem S32x1800 .f32)
  (x0 : Vec Ideal S1568x32 .f32) (x1 x2 : Vec Ideal S864x32 .f32)

/-- One product: the terms of one row of the window. -/
theorem product_apply (r : Fin 3) (L : FVec Ideal S32x192 .bf16) (hL : Left x2 r L) (o : Fin 32) (q : Fin 1800)
    (hq : q.val + 4 < 1800) :
    matmul dot_S32x192_S192x1800_S32x1800_1_0_0_1_n_n none L (kernelRun0_A.sl.r_9 c arg0 harg0 arg1 harg1 arg4 x0 x1)
      (constant (F := Ideal) S32x1800 .f32 0x00000000#32) (ValueIdx.ix2 o q)
    = ∑ d : Fin 3, ∑ ch : Fin 32, term x0 x1 x2 r d o ch (q.val + 2 * d.val) := by
  rw [dot_apply, sum_rows]
  refine Finset.sum_congr rfl fun d _ => Finset.sum_congr rfl fun ch _ => ?_
  rw [hL.first, hL.second, first_apply c arg0 harg0 arg1 harg1 arg4 x0 x1 d ch q ⟨q.val + 2 * d.val, by omega⟩ rfl,
    second_apply c arg0 harg0 arg1 harg1 arg4 x0 x1 d ch q ⟨q.val + 2 * d.val, by omega⟩ rfl]
  rfl

/-- The first product. -/
theorem product0 (o : Fin 32) (q : Fin 1800) (hq : q.val + 4 < 1800) :
    kernelRun0_A.sl.r_17 c arg0 harg0 arg1 harg1 arg2 harg2 arg4 x0 x1 x2 (ValueIdx.ix2 o q)
    = ∑ d : Fin 3, ∑ ch : Fin 32, term x0 x1 x2 0 d o ch (q.val + 2 * d.val) := by
  unfold kernelRun0_A.sl.r_17 k0_pay53
  dsimp only
  refine product_apply c arg0 harg0 arg1 harg1 arg4 x0 x1 x2 0 _ ?_ o q hq
  exact left_of x2 0 _ _ _ _ _ _ _ _
    (difference arg2 harg2 x2 _ _ _ _ 0 0 0 1 rfl rfl _ _) (difference arg2 harg2 x2 _ _ _ _ 0 0 2 1 rfl rfl _ _)
    (difference arg2 harg2 x2 _ _ _ _ 0 1 0 1 rfl rfl _ _) (difference arg2 harg2 x2 _ _ _ _ 0 1 2 1 rfl rfl _ _)
    (difference arg2 harg2 x2 _ _ _ _ 0 2 0 1 rfl rfl _ _) (difference arg2 harg2 x2 _ _ _ _ 0 2 2 1 rfl rfl _ _)

/-- The three products added, the second moved one row of the staged image (60 columns) and the third two rows. -/
theorem products (o : Fin 32) (q : Fin 1800) (hq : q.val + 124 < 1800) :
    kernelRun0_A.sl.r_20 c arg0 harg0 arg1 harg1 arg2 harg2 arg4 x0 x1 x2 (ValueIdx.ix2 o q)
    = ∑ r : Fin 3, ∑ d : Fin 3, ∑ ch : Fin 32, term x0 x1 x2 r d o ch (q.val + 60 * r.val + 2 * d.val) := by
  rw [Fin.sum_univ_three]
  unfold kernelRun0_A.sl.r_20 k0_pay62
  dsimp only
  refine congrArg₂ (fun a b : EReal => a + b) (congrArg₂ (fun a b : EReal => a + b) ?_ ?_) ?_
  · exact product0 c arg0 harg0 arg1 harg1 arg2 harg2 arg4 x0 x1 x2 o q (by omega)
  · refine (rotated 1740 60 _ rfl rfl (by omega) _ _ o q ⟨q.val + 60, by omega⟩ rfl).trans ?_
    exact product_apply c arg0 harg0 arg1 harg1 arg4 x0 x1 x2 1 _ (left1 c arg2 harg2 x2) o _ (by show q.val + 60 + 4 < 1800; omega)
  · refine (rotated 1680 120 _ rfl rfl (by omega) _ _ o q ⟨q.val + 120, by omega⟩ rfl).trans ?_
    refine product_apply c arg0 harg0 arg1 harg1 arg4 x0 x1 x2 2 _ ?_ o _ (by show q.val + 120 + 4 < 1800; omega)
    exact left_of x2 2 _ _ _ _ _ _ _ _
      (difference arg2 harg2 x2 _ _ _ _ 2 0 0 1 rfl rfl _ _) (difference arg2 harg2 x2 _ _ _ _ 2 0 2 1 rfl rfl _ _)
      (difference arg2 harg2 x2 _ _ _ _ 2 1 0 1 rfl rfl _ _) (difference arg2 harg2 x2 _ _ _ _ 2 1 2 1 rfl rfl _ _)
      (difference arg2 harg2 x2 _ _ _ _ 2 2 0 1 rfl rfl _ _) (difference arg2 harg2 x2 _ _ _ _ 2 2 2 1 rfl rfl _ _)

/-- THE KERNEL'S ACCUMULATOR WITH ITS BIAS, transposed: row `q`, output channel `o`. -/
theorem result_apply (o : Fin 32) (q : Fin 1800) (hq : q.val + 124 < 1800) :
    kernelRun0_A.sl.r_22 c arg0 harg0 arg1 harg1 arg2 harg2 arg4 x0 x1 x2 (ValueIdx.ix2 q o)
    = ∑ ch : Fin 32, ∑ r : Fin 3, ∑ d : Fin 3,
      (term x0 x1 x2 r d o ch (q.val + 60 * r.val + 2 * d.val) + value x2 r d 1 o ch) := by
  unfold kernelRun0_A.sl.r_22 k0_pay64
  dsimp only
  refine (transpose_apply [1, 0] _ _ (ValueIdx.ix2 q o) (ValueIdx.ix2 o q) fun b => ?_).trans ?_
  · match b with
    | ⟨0, _⟩ => rfl
    | ⟨1, _⟩ => rfl
  refine (congrArg₂ (fun a b : EReal => a + b) (products c arg0 harg0 arg1 harg1 arg2 harg2 arg4 x0 x1 x2 o q hq)
    ((broadcastTo_apply _ _ (ValueIdx.ix2 o q) (ValueIdx.ix2 o 0) fun a => ?_).trans (bias_apply c arg2 harg2 x2 o))).trans ?_
  · match a with
    | ⟨0, _⟩ => rfl
    | ⟨1, _⟩ => rfl
  simp only [Finset.sum_add_distrib]
  exact congrArg (· + _) ((Finset.sum_congr rfl fun r _ => Finset.sum_comm).trans Finset.sum_comm)

end Cert.Product

end
-- ==== Proof.Block.lean ====
/-
  What the kernel leaves in its output array, as one function of its three operand arrays: row `56 h + j` is row `60 h + j`
  of the accumulator with its bias.
-/
module

public import proofs.«01_k».proof.Proof.Product

@[expose] public section

noncomputable section

namespace Cert.Block

open Cert.KernelIdeal Cert.KernelIdeal.Gen Cert.Staged Cert.Basis Cert.Weights Cert.Product Idealize.ShloMosaic

/-- The rows of one image row lie in the output. -/
theorem band_inb (h : Fin 28) : ∀ a, (![56 * h.val, 0] : Fin 2 → ℕ) a + S56x32.size a ≤ S1568x32.size a := fun a => by
  match a with
  | ⟨0, _⟩ => show 56 * h.val + 56 ≤ 1568; omega
  | ⟨1, _⟩ => show 0 + 32 ≤ 32; omega

/-- The rows stored are a slice of the accumulator. -/
theorem band_slices (h : Fin 28) : S1800x32.Slices ![60 * h.val, 0] S56x32 := by
  revert h; decide

/-- The store of image row `h`. -/
def band (A : FVec Ideal S1800x32 .f32) (h : Fin 28) : View.Piece (Elt Ideal) S1568x32 .f32 :=
  ⟨Rect.unit ![56 * h.val, 0] S56x32.size (band_inb h), extractStridedSlice S56x32 ![60 * h.val, 0] A (band_slices h)⟩

/-- One output entry: row `n` of the output array, output channel `o`. -/
def entry (x0 : S1568x32.Idx → EReal) (x1 x2 : S864x32.Idx → EReal) (n : ℕ) (o : Fin 32) : EReal :=
  ∑ ch : Fin 32, ∑ r : Fin 3, ∑ d : Fin 3,
    (term x0 x1 x2 r d o ch (60 * (n / 56) + n % 56 + 60 * r.val + 2 * d.val) + value x2 r d 1 o ch)

/-- The output array. -/
def output (x0 : S1568x32.Idx → EReal) (x1 x2 : S864x32.Idx → EReal) : S1568x32.Idx → EReal :=
  fun y => entry x0 x1 x2 (y 0).val (y 1)

variable (c : Dev nD) (arg0 : Memref sig .tc .vmem S1568x32 .f32) (harg0 : arg0.IsWhole)
  (arg1 : Memref sig .tc .vmem S864x32 .f32) (harg1 : arg1.IsWhole) (arg2 : Memref sig .tc .vmem S864x32 .f32)
  (harg2 : arg2.IsWhole) (arg3 : Memref sig .tc .vmem S1568x32 .f32) (harg3 : arg3.IsWhole)
  (arg4 : Memref sig .tc .vmem S32x1800 .f32) (harg4 : arg4.IsWhole)
  (x0 : Vec Ideal S1568x32 .f32) (x1 x2 : Vec Ideal S864x32 .f32)

/-- The stores into the output. -/
theorem stores_eq : (kernelRun0_A c arg0 harg0 arg1 harg1 arg2 harg2 arg3 harg3 arg4 harg4 x0 x1 x2).1
    = rows.map (band (kernelRun0_A.sl.r_22 c arg0 harg0 arg1 harg1 arg2 harg2 arg4 x0 x1 x2)) := rfl

/-- What the store of image row `h` writes. -/
theorem band_apply (h : Fin 28) (j : S56x32.Idx) :
    (band (kernelRun0_A.sl.r_22 c arg0 harg0 arg1 harg1 arg2 harg2 arg4 x0 x1 x2) h).2 j
      = entry x0 x1 x2 (56 * h.val + (j 0).val) (j 1) := by
  have h0 : (j 0).val < 56 := (j 0).isLt
  have hh := h.isLt
  unfold band
  dsimp only
  refine (extractStridedSlice_apply ![60 * h.val, 0] _ (band_slices h) j
    (ValueIdx.ix2 (⟨60 * h.val + (j 0).val, by omega⟩ : Fin 1800) (j 1)) fun a => ?_).trans ?_
  · match a with
    | ⟨0, _⟩ => rfl
    | ⟨1, _⟩ => show (j 1).val = 0 + (j 1).val; omega
  refine (result_apply c arg0 harg0 arg1 harg1 arg2 harg2 arg4 x0 x1 x2 (j 1) _
    (by show 60 * h.val + (j 0).val + 124 < 1800; omega)).trans ?_
  unfold entry
  have e : 60 * ((56 * h.val + (j 0).val) / 56) + (56 * h.val + (j 0).val) % 56 = 60 * h.val + (j 0).val := by omega
  rw [e]

/-- THE OUTPUT BLOCK after the kernel's run. -/
theorem out_eq : out0_A_3 c arg0 harg0 arg1 harg1 arg2 harg2 arg3 harg3 arg4 harg4 x0 x1 x2 = output x0 x1 x2 := by
  funext y
  unfold out0_A_3
  rw [View.read_writes_eq_canon _ _ _ (cover0_A_3 c arg0 harg0 arg1 harg1 arg2 harg2 arg3 harg3 arg4 harg4 x0 x1 x2)]
  refine View.canon_apply_of_pieces (output x0 x1 x2) _ (fun p hp j => ?_) y
    (cover0_A_3 c arg0 harg0 arg1 harg1 arg2 harg2 arg3 harg3 arg4 harg4 x0 x1 x2 y)
  rw [stores_eq] at hp
  obtain ⟨h, -, rfl⟩ := List.mem_map.mp hp
  refine (band_apply c arg0 harg0 arg1 harg1 arg2 harg2 arg4 x0 x1 x2 h j).trans ?_
  unfold output
  refine congrArg₂ (entry x0 x1 x2) ?_ (Fin.ext ?_)
  · show 56 * h.val + (j 0).val = 56 * h.val + 1 * (j 0).val
    omega
  · show (j 1).val = 0 + 1 * (j 1).val
    omega

end Cert.Block

end
-- ==== Proof.Run.lean ====
/-
  The kernel's run: the result is the block of `Block.lean`, at the three operands that the host lines before the region
  make of the arguments, read back as an image by the host lines after it.
-/
module

public import proofs.«01_k».proof.Proof.Block

@[expose] public section

noncomputable section

namespace Cert.Run

open Cert.KernelIdeal Cert.KernelIdeal.Gen Cert.Block Idealize.ShloMosaic Idealize.ShloMosaic.TcCoe Idealize.SL.Sem

/-! ## The host lines -/

/-- The image as the kernel's rows: row `(28 h + w) * 2 + b`, column channel. -/
def imageRows (x : Vec Ideal S2x32x28x28 .f32) : S1568x32.Idx → EReal :=
  shapeCast S1568x32 (transpose S28x28x2x32 [2, 3, 0, 1] x transposes_S2x32x28x28_S28x28x2x32_2_3_0_1)
    shapeCasts_S28x28x2x32_S1568x32

/-- A weight array as the kernel's rows: row `((3 i + j) * 3 + k) * 32 + o`, column channel. -/
def weightRows (p : Vec Ideal S32x32x3x3x3 .f32) : S864x32.Idx → EReal :=
  shapeCast S864x32 (transpose S3x3x3x32x32 [2, 3, 4, 0, 1] p transposes_S32x32x3x3x3_S3x3x3x32x32_2_3_4_0_1)
    shapeCasts_S3x3x3x32x32_S864x32

/-- The kernel's output rows as an image. -/
def imageOf (y : S1568x32.Idx → EReal) : S2x32x28x28.Idx → EReal :=
  transpose S2x32x28x28 [2, 3, 0, 1] (shapeCast S28x28x2x32 y shapeCasts_S1568x32_S28x28x2x32)
    transposes_S28x28x2x32_S2x32x28x28_2_3_0_1

variable (m : (ℓ : Loc nD τ sig) → Buf (Elt Ideal) ℓ) (ρ : Dev nD → PrngReg)

/-- What the region finds in its first operand. -/
theorem image_read (c : Dev nD) : V m c main_v1 = imageRows (m ((c.tc : Thread nD τ).loc main_arg0)) := by
  show StableHlo.after hostOps0 (fun b => m (c, b)) (Proc.devRef .tc main_v1) = _
  after_results
  rfl

/-- What the region finds in its second operand. -/
theorem positions_read (c : Dev nD) : V m c main_v3 = weightRows (m ((c.tc : Thread nD τ).loc main_arg1)) := by
  show StableHlo.after hostOps0 (fun b => m (c, b)) (Proc.devRef .tc main_v3) = _
  after_results
  rfl

/-- What the region finds in its third operand. -/
theorem values_read (c : Dev nD) : V m c main_v5 = weightRows (m ((c.tc : Thread nD τ).loc main_arg2)) := by
  show StableHlo.after hostOps0 (fun b => m (c, b)) (Proc.devRef .tc main_v5) = _
  after_results
  rfl

/-! ## The one grid point -/

/-- Each window's block index at the one grid point is zero on each axis. -/
theorem index_zero : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

/-- The image's block is the whole array. -/
theorem place0 (t : Fin cfg0.N) (j : S1568x32.Idx) : ((cfg0.win 0).blk t).view.emb j = j := by
  obtain ⟨⟨e0, e1⟩, -, -, -⟩ := index_zero t
  funext a; apply Fin.ext
  match a with
  | ⟨0, _⟩ => show win0_0.index t (0 : Fin 2) * 1568 + 1 * (j 0).val = (j 0).val; omega
  | ⟨1, _⟩ => show win0_0.index t (1 : Fin 2) * 32 + 1 * (j 1).val = (j 1).val; omega

/-- The positions' block is the whole array. -/
theorem place1 (t : Fin cfg0.N) (j : S864x32.Idx) : ((cfg0.win 1).blk t).view.emb j = j := by
  obtain ⟨-, ⟨e0, e1⟩, -, -⟩ := index_zero t
  funext a; apply Fin.ext
  match a with
  | ⟨0, _⟩ => show win0_1.index t (0 : Fin 2) * 864 + 1 * (j 0).val = (j 0).val; omega
  | ⟨1, _⟩ => show win0_1.index t (1 : Fin 2) * 32 + 1 * (j 1).val = (j 1).val; omega

/-- The values' block is the whole array. -/
theorem place2 (t : Fin cfg0.N) (j : S864x32.Idx) : ((cfg0.win 2).blk t).view.emb j = j := by
  obtain ⟨-, -, ⟨e0, e1⟩, -⟩ := index_zero t
  funext a; apply Fin.ext
  match a with
  | ⟨0, _⟩ => show win0_2.index t (0 : Fin 2) * 864 + 1 * (j 0).val = (j 0).val; omega
  | ⟨1, _⟩ => show win0_2.index t (1 : Fin 2) * 32 + 1 * (j 1).val = (j 1).val; omega

/-- The output's block is the whole array. -/
theorem place3 (t : Fin cfg0.N) (j : S1568x32.Idx) : ((cfg0.win 3).blk t).view.emb j = j := by
  obtain ⟨-, -, -, e0, e1⟩ := index_zero t
  funext a; apply Fin.ext
  match a with
  | ⟨0, _⟩ => show win0_3.index t (0 : Fin 2) * 1568 + 1 * (j 0).val = (j 0).val; omega
  | ⟨1, _⟩ => show win0_3.index t (1 : Fin 2) * 32 + 1 * (j 1).val = (j 1).val; omega

/-- The image's block as the body finds it. -/
theorem block0 (c : Dev nD) (t : Fin cfg0.N) : iblk m c 0 t = V m c main_v1 := by
  funext j; show V m c main_v1 (((cfg0.win 0).blk t).view.emb j) = V m c main_v1 j; rw [place0]

/-- The positions' block as the body finds it. -/
theorem block1 (c : Dev nD) (t : Fin cfg0.N) : iblk m c 1 t = V m c main_v3 := by
  funext j; show V m c main_v3 (((cfg0.win 1).blk t).view.emb j) = V m c main_v3 j; rw [place1]

/-- The values' block as the body finds it. -/
theorem block2 (c : Dev nD) (t : Fin cfg0.N) : iblk m c 2 t = V m c main_v5 := by
  funext j; show V m c main_v5 (((cfg0.win 2).blk t).view.emb j) = V m c main_v5 j; rw [place2]

/-- The output array at the arguments. -/
def rowsOut (c : Dev nD) : S1568x32.Idx → EReal :=
  output (imageRows (m ((c.tc : Thread nD τ).loc main_arg0))) (weightRows (m ((c.tc : Thread nD τ).loc main_arg1)))
    (weightRows (m ((c.tc : Thread nD τ).loc main_arg2)))

/-- What the body leaves in the output's block. -/
theorem body_out (c : Dev nD) (t : Fin cfg0.N) : outsAt0 m c t = rowsOut m c := by
  unfold outsAt0 rowsOut
  rw [out_eq, block0, block1, block2, image_read, positions_read, values_read]

/-- What the point writes back. -/
theorem written (c : Dev nD) (t : Fin cfg0.N) :
    (dats m 0 c).flushed 3 t = ((cfg0.win 3).blk t).view.read (Elt Ideal) (rowsOut m c) := by
  show (cfg0.win 3).cut (grid0.coords t) ((dats m 0 c).after 3 t) = _
  rw [after0_3, body_out]
  funext j
  show rowsOut m c j = rowsOut m c (((cfg0.win 3).blk t).view.emb j)
  rw [place3]

/-- Each index of the output array is in the point's block. -/
theorem covered (i : S1568x32.Idx) :
    ∃ t : Fin cfg0.N, (cfg0.win 3).flush t = true ∧ i ∈ ((cfg0.win 3).blk t).view.set :=
  ⟨(⟨0, by decide⟩ : Fin cfg0.N), flush0_3 _, by
    have h := ((cfg0.win 3).blk (⟨0, by decide⟩ : Fin cfg0.N)).view.emb_mem_set i; rwa [place3] at h⟩

/-- The output array after the region. -/
theorem rows_final (c : Dev nD) : (dats m 0 c).arrAt 3 cfg0.N = rowsOut m c :=
  (dats m 0 c).arrAt_eq_of_cover 3 (rowsOut m c) (fun t _ => written m c t) covered

/-! ## The result -/

/-- The arrays of the region are four. -/
theorem arrays_distinct : Function.Injective (Pipeline.arrRef spec0) := by decide

/-- What the host lines after the region leave in the result. -/
theorem result_read (c : Dev nD) :
    Pipeline.afterTail₀ cfgs (dats m) 0 (V0 m) [hostOps1] c main_v8 = imageOf (rowsOut m c) := by
  unfold Pipeline.afterTail₀
  have e : Pipeline.withArrays (cfgs 0).spec c (V0 m c) (fun w => (dats m 0 c).arrAt w (cfgs 0).N) (Proc.devRef .tc main_v6)
      = rowsOut m c :=
    (Pipeline.withArrays_arr spec0 arrays_distinct c (V0 m c) (fun w => (dats m 0 c).arrAt w cfg0.N) 3).trans (rows_final m c)
  after_results
  exact congrArg imageOf e

/-- THE RUN: the result and the arguments at the end. -/
theorem run : θ_run defs (onTc (τ := τ) (main (F := Ideal))) ⟨m, fun _ => 0, ρ⟩ fun r => ∀ c : Dev nD,
      r.2.mem ((c.tc : Thread nD τ).loc main_v8) = imageOf (rowsOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (result_read m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Run

end
-- ==== Proof.RefOrder.lean ====
/-
  The reference's sort of each weight's breakpoints, and the two gathers that follow it. On breakpoints that are in
  order already the stable sort moves nothing: the order is `0, 1, 2`, and the gathers return positions and values as
  they were.
-/
module

public import proofs.«01_k».proof.Proof.Gen.ReferenceIdeal.Read
public import Idealize.ShloMosaic.Lib.SortFacts
public import Idealize.ShloMosaic.Lib.ReduceAll
public import Idealize.ShloMosaic.Lib.ValueIdx
public import Idealize.ShloMosaic.Lib.IdealHost

@[expose] public section

noncomputable section

namespace Cert.RefOrder

open Cert.ReferenceIdeal Cert.ReferenceIdeal.Gen Cert.ReferenceIdeal.Read Idealize.ShloMosaic Idealize.ShloMosaic.ValueIdx

/-! ## A stable sort of a list in order -/

/-- A stable insertion sort leaves a list alone in which no later entry sorts before an earlier one. -/
theorem stableSort_of_pairwise {ι : Type} (before : ι → ι → Bool) (l : List ι)
    (h : l.Pairwise fun a b => before b a = false) : stableSort before l = l := by
  induction l with
  | nil => rfl
  | cons a l ih =>
    rw [List.pairwise_cons] at h
    unfold stableSort
    rw [ih h.2]
    cases l with
    | nil => rfl
    | cons b l => unfold insertBefore; rw [h.1 b (List.mem_cons_self ..)]; simp

/-- Then every position keeps its element. -/
theorem sortedFrom_of_ordered {n : ℕ} (before : Fin n → Fin n → Bool)
    (h : ∀ a b : Fin n, a < b → before b a = false) (k : Fin n) : sortedFrom before k = k := by
  have hs : sortPositions n before = List.finRange n :=
    stableSort_of_pairwise before _ ((List.pairwise_lt_finRange n).imp fun hab => h _ _ hab)
  unfold sortedFrom
  have : ∀ (l : List (Fin n)) (hl : l.length = n), l = List.finRange n → l.get (k.cast hl.symm) = k := by
    rintro l hl rfl; simp
  exact this _ (length_sortPositions n before) hs

/-! ## The comparator at the ideal instance -/

/-- The comparator compares the keys (zeros and NaN patterns, which it treats apart, need no care here). -/
theorem comparator_apply (l r : EReal × BitVec 32) :
    comparator_f32_i32_d2 (F := Ideal) l r = BitVec.ofBool (decide (l.1 < r.1)) := by
  have canon : ∀ x z n : EReal, Scalar.select (Ideal.cmp .une x x) n (Scalar.select (Ideal.cmp .oeq x z) z x) = x := by
    intro x z n
    rw [show Ideal.cmp .une x x = 0#1 by simp [Ideal.cmp]]
    show Scalar.select (Ideal.cmp .oeq x z) z x = x
    by_cases hx : x = z
    · rw [show Ideal.cmp .oeq x z = 1#1 by simp [Ideal.cmp, hx]]
      exact hx.symm
    · rw [show Ideal.cmp .oeq x z = 0#1 by simp only [Ideal.cmp, decide_eq_false hx]; rfl]
      rfl
  show Ideal.cmp .olt (Scalar.select (Ideal.cmp .une l.1 l.1) _ (Scalar.select (Ideal.cmp .oeq l.1 _) _ l.1))
    (Scalar.select (Ideal.cmp .une r.1 r.1) _ (Scalar.select (Ideal.cmp .oeq r.1 _) _ r.1)) = _
  rw [canon, canon]
  rfl

/-! ## The order -/

/-- The breakpoints are one grid `g`, in order, for every weight. -/
structure Shared (x1 : (⟨S32x32x3x3x3, .f32⟩ : BufTy).Contents (Elt Ideal)) (g : Fin 3 → EReal) : Prop where
  eq : ∀ i : S32x32x3x3x3.Idx, x1 i = g (i 4)
  mono : ∀ a b : Fin 3, a ≤ b → g a ≤ g b

variable {x1 x2 : (⟨S32x32x3x3x3, .f32⟩ : BufTy).Contents (Elt Ideal)} {g : Fin 3 → EReal}

/-- The reshaped positions at an index hold the grid's entry of the last coordinate. -/
theorem positions_apply (h : Shared x1 g) (i : S32x288x3.Idx) : val_main_v21 (F := Ideal) x1 i = g (i 2) := by
  rw [val_main_v21_apply, h.eq]
  refine congrArg g (Fin.ext ?_)
  show (((i 0).val * 288 + (i 1).val) * 3 + (i 2).val) % 3 = (i 2).val
  have : (i 2).val < 3 := (i 2).isLt
  omega

/-- The index `i` with its last coordinate set to `k`. -/
abbrev across (i : S32x288x3.Idx) (k : Fin 3) : S32x288x3.Idx := Shape.Idx.along (s := S32x288x3) i (2 : Fin 3) k

/-- There the reshaped positions hold the grid's entry `k`. -/
theorem positions_across (h : Shared x1 g) (i : S32x288x3.Idx) (k : Fin 3) :
    val_main_v21 (F := Ideal) x1 (across i k) = g k :=
  (positions_apply h _).trans (congrArg g (show across i k 2 = k from rfl))

/-- The argsort is the identity: at every index, the last coordinate. -/
theorem order_apply (h : Shared x1 g) (i : S32x288x3.Idx) :
    val_main_v23 (F := Ideal) x1 i = BitVec.ofNat 32 (i 2).val := by
  unfold val_main_v23
  rw [Host.sort2, dif_pos (show 2 < S32x288x3.rank by decide)]
  dsimp only
  rw [sortedFrom_of_ordered]
  · rw [val_main_call1_v0_apply]; simp [Shape.Idx.along]
  · intro a b hab
    rw [comparator_apply]
    refine beq_false_of_ne fun e => ?_
    have hlt : val_main_v21 (F := Ideal) x1 (across i b) < val_main_v21 (F := Ideal) x1 (across i a) := by
      by_contra hn
      have e' : BitVec.ofBool (decide (val_main_v21 (F := Ideal) x1 (across i b)
        < val_main_v21 (F := Ideal) x1 (across i a))) = 1#1 := e
      rw [decide_eq_false hn] at e'
      exact absurd e' (by decide)
    exact absurd (lt_of_eq_of_lt (positions_across h i b).symm (lt_of_lt_of_eq hlt (positions_across h i a)))
      (not_lt.mpr (h.mono _ _ hab.le))

/-! ## The gathers along the order -/

/-- Every start index is the last coordinate: nothing wraps. -/
theorem start_apply (h : Shared x1 g) (i : S32x288x3x1.Idx) :
    val_main_call2_v5 (F := Ideal) x1 i = BitVec.ofNat 32 (i 2).val := by
  have h3 : (i 3).val < 1 := (i 3).isLt
  have h2 : (i 2).val < 3 := (i 2).isLt
  rw [val_main_call2_v5_apply, val_main_call2_v4_apply, val_main_call2_v1_apply, val_main_call2_v3_apply, order_apply h,
    val_main_call2_v0_apply, val_main_call2_c_apply, val_main_call2_v2_apply, val_main_call2_c_0_apply]
  have e : (idx_main_call2_v5 i 2).val = (i 2).val := by
    show ((((i 0).val * 288 + (i 1).val) * 3 + (i 2).val) * 1 + (i 3).val) % 3 = (i 2).val
    omega
  rw [e]
  generalize (i 2).val = n at h2
  interval_cases n <;> rfl

/-- Every start index is in range, so the out-of-range fill is never taken. -/
theorem inRange (h : Shared x1 g) (i : S32x288x3.Idx) : val_main_call2_v12 (F := Ideal) x1 i = 1#1 := by
  unfold val_main_call2_v12
  refine Host.reduce_andi_one _ _ _ _ _ rfl fun k => ?_
  have h2 : (k 2).val < 3 := (k 2).isLt
  rw [val_main_call2_v11_apply, val_main_call2_v7_apply, val_main_call2_v10_apply, start_apply h,
    val_main_call2_v6_apply, val_main_call2_c_2_apply, val_main_call2_v9_apply, val_main_call2_v8_apply,
    val_main_call2_c_1_apply]
  generalize (k 2).val = n at h2
  interval_cases n <;> rfl

/-- A gather along the last axis whose start index is the last coordinate returns its operand. -/
theorem gather_apply {α : Type} (y : S32x288x3.Idx → α) (idx : IVec S32x288x3x1 32)
    (hidx : ∀ k, idx k = BitVec.ofNat 32 (k 2).val) (i : S32x288x3.Idx) :
    Host.gather gather_S32x288x3_S32x288x3x1_S32x288x3_n_2_01_01_2_3_111 y idx i = y i := by
  unfold Host.gather
  refine congrArg y (funext fun a => Fin.ext ?_)
  show GatherDims.start _ i idx a + GatherDims.batchCoord _ i a + GatherDims.offCoord _ i a = _
  have hk : a ∉ GatherDims.sKept gather_S32x288x3_S32x288x3x1_S32x288x3_n_2_01_01_2_3_111 := by
    rw [GatherDims.mem_sKept]; revert a; decide
  rw [GatherDims.offCoord_eq_zero _ _ _ hk, Nat.add_zero]
  have h3 : a = 0 ∨ a = 1 ∨ a = 2 := by revert a; decide
  rcases h3 with rfl | rfl | rfl
  · rw [GatherDims.start_batching _ _ _ _ (by decide), Nat.zero_add]
    rfl
  · rw [GatherDims.start_batching _ _ _ _ (by decide), Nat.zero_add]
    rfl
  · rw [GatherDims.batchCoord_eq_zero _ _ _ (by decide), Nat.add_zero]
    unfold GatherDims.start
    rw [dif_pos (by decide), hidx]
    show min (BitVec.ofNat 32 (i 2).val).toInt.toNat 2 = (i 2).val
    have h2 : (i 2).val < 3 := (i 2).isLt
    generalize (i 2).val = n at h2
    interval_cases n <;> rfl

/-- THE SORTED BREAKPOINTS are the breakpoints. -/
theorem sorted_positions (h : Shared x1 g) (i : S32x288x3.Idx) : val_main_v24 (F := Ideal) x1 i = g (i 2) := by
  rw [val_main_v24_apply, inRange h]
  show val_main_call2_v13 (F := Ideal) x1 i = _
  unfold val_main_call2_v13
  rw [gather_apply _ _ (start_apply h), positions_apply h]

/-- THE VALUES IN THE BREAKPOINTS' ORDER are the values. -/
theorem sorted_values (h : Shared x1 g) (i : S32x288x3.Idx) :
    val_main_v25 (F := Ideal) x1 x2 i = val_main_v22 (F := Ideal) x2 i := by
  have hs : val_main_call3_v5 (F := Ideal) x1 = val_main_call2_v5 (F := Ideal) x1 := rfl
  have hr : val_main_call3_v12 (F := Ideal) x1 = val_main_call2_v12 (F := Ideal) x1 := rfl
  rw [val_main_v25_apply, hr, inRange h]
  show val_main_call3_v13 (F := Ideal) x1 x2 i = _
  unfold val_main_call3_v13
  rw [hs, gather_apply _ _ (start_apply h)]

end Cert.RefOrder

end
-- ==== Proof.Image.lean ====
/-
  The zero-padded image both programs take their patches from, as one function of the image: at a row and a column counted
  from the padded corner, the image's entry inside and `0` on the border. With it, a host `pad` read at an index.
-/
module

public import Idealize.ShloMosaic.Lib.KernelVsHost
public import Idealize.ShloMosaic.Lib.ValueIdx
public import Idealize.ShloMosaic.PureOps.Ideal

@[expose] public section

noncomputable section

namespace Cert.Image

open Idealize.ShloMosaic Idealize.ShloMosaic.ValueIdx

/-- The image's shape. -/
abbrev Sx : Shape := ⟨4, ![2, 32, 28, 28]⟩
/-- The padded image's shape. -/
abbrev Sp : Shape := ⟨4, ![2, 32, 30, 30]⟩

/-- The padded image: row `y` and column `z` are counted from the corner of the border. -/
def padded (x : Sx.Idx → EReal) (b : Fin 2) (c : Fin 32) (y z : ℕ) : EReal :=
  if h : (1 ≤ y ∧ y ≤ 28) ∧ (1 ≤ z ∧ z ≤ 28) then x (ix4 b c ⟨y - 1, by omega⟩ ⟨z - 1, by omega⟩) else 0

/-- Equal coordinates, equal entries. -/
theorem padded_congr (x : Sx.Idx → EReal) {b b' : Fin 2} {c c' : Fin 32} {y y' z z' : ℕ} (hb : b = b') (hc : c = c')
    (hy : y = y') (hz : z = z') : padded x b c y z = padded x b' c' y' z' := by
  subst hb hc hy hz; rfl

/-- The entry row `k = 9 c + 3 r + s` of a patch holds for the pixel in row `h` and column `w`: channel `c` of the padded
    image, `r` rows down and `s` columns right of the pixel. -/
def patchAt (x : Sx.Idx → EReal) (b : Fin 2) (k : Fin 288) (h w : ℕ) : EReal :=
  padded x b ⟨k.val / 9, by omega⟩ (k.val % 9 / 3 + h) (k.val % 3 + w)

/-- Inside the border the padded image is the image. -/
theorem padded_inside (x : Sx.Idx → EReal) (b : Fin 2) (c : Fin 32) {y z : ℕ} (h : Fin 28) (w : Fin 28)
    (hy : y = h.val + 1) (hz : z = w.val + 1) : padded x b c y z = x (ix4 b c h w) := by
  subst hy hz
  unfold padded
  rw [dif_pos ⟨⟨by omega, by omega⟩, by omega, by omega⟩]
  rfl

/-- On the border the padded image is `0`. -/
theorem padded_border (x : Sx.Idx → EReal) (b : Fin 2) (c : Fin 32) {y z : ℕ}
    (h : ¬((1 ≤ y ∧ y ≤ 28) ∧ (1 ≤ z ∧ z ≤ 28))) : padded x b c y z = 0 := dif_neg h

/-- A host `pad` of the image by one row and column of zeros on each side, read at an index, is the padded image. -/
theorem pad_eq (x : Sx.Idx → EReal) {u : Shape} (v : u.Idx → EReal) (hv : ∀ i, v i = 0)
    (h : Sx.Pads ![0, 0, 1, 1] ![0, 0, 1, 1] ![0, 0, 0, 0] Sp) (hu : 0 < u.numel) (j : Sp.Idx) :
    pad Sp ![0, 0, 1, 1] ![0, 0, 1, 1] ![0, 0, 0, 0] x v h hu j = padded x (j 0) (j 1) (j 2).val (j 3).val := by
  by_cases hin : (1 ≤ (j 2).val ∧ (j 2).val ≤ 28) ∧ (1 ≤ (j 3).val ∧ (j 3).val ≤ 28)
  · refine Eq.trans ?_ (padded_inside x (j 0) (j 1) ⟨(j 2).val - 1, by omega⟩ ⟨(j 3).val - 1, by omega⟩
      (by show (j 2).val = (j 2).val - 1 + 1; omega) (by show (j 3).val = (j 3).val - 1 + 1; omega)).symm
    refine pad_apply_of_inside _ _ _ x v h hu j _ fun a => ?_
    match a with
    | ⟨0, _⟩ => show (j 0).val = 0 + (j 0).val * 1; omega
    | ⟨1, _⟩ => show (j 1).val = 0 + (j 1).val * 1; omega
    | ⟨2, _⟩ => show (j 2).val = 1 + ((j 2).val - 1) * 1; omega
    | ⟨3, _⟩ => show (j 3).val = 1 + ((j 3).val - 1) * 1; omega
  · refine (?_ : _ = v (Shape.Idx.first hu)).trans ((hv _).trans (padded_border x (j 0) (j 1) hin).symm)
    by_cases h2 : 1 ≤ (j 2).val ∧ (j 2).val ≤ 28
    · have h3 : ¬(1 ≤ (j 3).val ∧ (j 3).val ≤ 28) := fun h3 => hin ⟨h2, h3⟩
      refine pad_apply_of_not_inside _ _ _ x v h hu j 3 ?_
      show ¬(1 ≤ (j 3).val ∧ ((j 3).val - 1) % 1 = 0 ∧ ((j 3).val - 1) / 1 < 28)
      omega
    · refine pad_apply_of_not_inside _ _ _ x v h hu j 2 ?_
      show ¬(1 ≤ (j 2).val ∧ ((j 2).val - 1) % 1 = 0 ∧ ((j 2).val - 1) / 1 < 28)
      omega

end Cert.Image

end
-- ==== Proof.RefPatch.lean ====
/-
  The reference's patches: at an image, a row `9 c + 3 r + s` and a pixel `28 h + w`, the padded image's channel `c` at row
  `h + r` and column `w + s`.
-/
module

public import proofs.«01_k».proof.Proof.Gen.ReferenceIdeal.Read
public import proofs.«01_k».proof.Proof.Image

@[expose] public section

noncomputable section

namespace Cert.RefPatch

open Cert.ReferenceIdeal Cert.ReferenceIdeal.Gen Cert.ReferenceIdeal.Read Cert.Image Idealize.ShloMosaic

variable (x0 : (⟨S2x32x28x28, .f32⟩ : BufTy).Contents (Elt Ideal))

/-- The reference's padded image. -/
theorem pad_read (j : S2x32x30x30.Idx) :
    val_main_v0 (F := Ideal) x0 j = padded x0 (j 0) (j 1) (j 2).val (j 3).val := by
  unfold val_main_v0
  refine Image.pad_eq x0 _ (fun i => ?_) _ _ j
  rw [val_main_call0_v0_apply, val_main_c_apply]
  show ((((0#32 : BitVec 32).toInt : ℝ)) : EReal) = 0
  simp

/-- The nine shifted images, by the shift's number. -/
def shifted (n : Fin 9) : S2x32x1x28x28.Idx → EReal :=
  match n with
  | 0 => val_main_v10 (F := Ideal) x0 | 1 => val_main_v11 (F := Ideal) x0 | 2 => val_main_v12 (F := Ideal) x0
  | 3 => val_main_v13 (F := Ideal) x0 | 4 => val_main_v14 (F := Ideal) x0 | 5 => val_main_v15 (F := Ideal) x0
  | 6 => val_main_v16 (F := Ideal) x0 | 7 => val_main_v17 (F := Ideal) x0 | 8 => val_main_v18 (F := Ideal) x0

/-- Shift `n` moves down by `n / 3` rows and right by `n % 3` columns. -/
theorem shifted_apply (n : Fin 9) (i : S2x32x1x28x28.Idx) :
    shifted x0 n i = padded x0 (i 0) (i 1) (n.val / 3 + (i 3).val) (n.val % 3 + (i 4).val) := by
  fin_cases n
  · refine (val_main_v10_apply x0 i).trans ((val_main_v1_apply x0 _).trans ((pad_read x0 _).trans ?_))
    exact padded_congr x0 rfl rfl (by show (i 3).val = 0 + (i 3).val; omega) (by show (i 4).val = 0 + (i 4).val; omega)
  · refine (val_main_v11_apply x0 i).trans ((val_main_v2_apply x0 _).trans ((pad_read x0 _).trans ?_))
    exact padded_congr x0 rfl rfl (by show (i 3).val = 0 + (i 3).val; omega) rfl
  · refine (val_main_v12_apply x0 i).trans ((val_main_v3_apply x0 _).trans ((pad_read x0 _).trans ?_))
    exact padded_congr x0 rfl rfl (by show (i 3).val = 0 + (i 3).val; omega) rfl
  · refine (val_main_v13_apply x0 i).trans ((val_main_v4_apply x0 _).trans ((pad_read x0 _).trans ?_))
    exact padded_congr x0 rfl rfl rfl (by show (i 4).val = 0 + (i 4).val; omega)
  · exact (val_main_v14_apply x0 i).trans ((val_main_v5_apply x0 _).trans (pad_read x0 _))
  · exact (val_main_v15_apply x0 i).trans ((val_main_v6_apply x0 _).trans (pad_read x0 _))
  · refine (val_main_v16_apply x0 i).trans ((val_main_v7_apply x0 _).trans ((pad_read x0 _).trans ?_))
    exact padded_congr x0 rfl rfl rfl (by show (i 4).val = 0 + (i 4).val; omega)
  · exact (val_main_v17_apply x0 i).trans ((val_main_v8_apply x0 _).trans (pad_read x0 _))
  · exact (val_main_v18_apply x0 i).trans ((val_main_v9_apply x0 _).trans (pad_read x0 _))

/-- The shifted images joined. -/
theorem joined_apply (j : S2x32x9x28x28.Idx) :
    val_main_v19 (F := Ideal) x0 j
      = padded x0 (j 0) (j 1) ((j 2).val / 3 + (j 3).val) ((j 2).val % 3 + (j 4).val) := by
  unfold val_main_v19
  have list : ∀ (xs ys : List ((s : Shape) × (s.Idx → EReal))) (e : xs = ys) (hx : Shape.Concatenates (xs.map (·.1)) S2x32x9x28x28 2)
      (hy : Shape.Concatenates (ys.map (·.1)) S2x32x9x28x28 2),
      concatenate S2x32x9x28x28 2 xs hx j = concatenate S2x32x9x28x28 2 ys hy j := by
    rintro _ _ rfl _ _; rfl
  have pieces := (show List.ofFn (fun n : Fin 9 => (⟨S2x32x1x28x28, shifted x0 n⟩ : (s : Shape) × (s.Idx → EReal)))
    = [⟨_, shifted x0 0⟩, ⟨_, shifted x0 1⟩, ⟨_, shifted x0 2⟩, ⟨_, shifted x0 3⟩, ⟨_, shifted x0 4⟩, ⟨_, shifted x0 5⟩,
      ⟨_, shifted x0 6⟩, ⟨_, shifted x0 7⟩, ⟨_, shifted x0 8⟩] by simp [List.ofFn_succ])
  have hs : Shape.Concatenates ((List.ofFn (fun n : Fin 9 => (⟨S2x32x1x28x28, shifted x0 n⟩ : (s : Shape) × (s.Idx → EReal)))).map (·.1))
      S2x32x9x28x28 2 := by
    rw [pieces]
    exact concatenates_S2x32x1x28x28_S2x32x1x28x28_S2x32x1x28x28_S2x32x1x28x28_S2x32x1x28x28_S2x32x1x28x28_S2x32x1x28x28_S2x32x1x28x28_S2x32x1x28x28_S2x32x9x28x28_d2
  refine (list _ _ pieces.symm _ hs).trans ((concatenate_ofFn_unit_apply (t := S2x32x9x28x28) (s₁ := S2x32x1x28x28) (2 : Fin 5) (shifted x0) hs
    rfl rfl j (j 2) rfl (ValueIdx.ix5 (j 0) (j 1) 0 (j 3) (j 4)) fun b hb => ?_).trans (shifted_apply x0 _ _))
  match b with
  | ⟨0, _⟩ => rfl
  | ⟨1, _⟩ => rfl
  | ⟨2, _⟩ => exact absurd rfl hb
  | ⟨3, _⟩ => rfl
  | ⟨4, _⟩ => rfl

/-- THE PATCHES. -/
theorem patch_apply (i : S2x288x784.Idx) :
    val_main_v20 (F := Ideal) x0 i = padded x0 (i 0) ⟨(i 1).val / 9, by have : (i 1).val < 288 := (i 1).isLt; omega⟩
      ((i 1).val % 9 / 3 + (i 2).val / 28) ((i 1).val % 3 + (i 2).val % 28) := by
  have h0 : (i 0).val < 2 := (i 0).isLt
  have h1 : (i 1).val < 288 := (i 1).isLt
  have h2 : (i 2).val < 784 := (i 2).isLt
  rw [val_main_v20_apply, joined_apply]
  refine padded_congr x0 (Fin.ext ?_) (Fin.ext ?_) ?_ ?_
  · show (((i 0).val * 288 + (i 1).val) * 784 + (i 2).val) / 225792 = (i 0).val
    omega
  · show (((i 0).val * 288 + (i 1).val) * 784 + (i 2).val) / 7056 % 32 = (i 1).val / 9
    omega
  · show (((i 0).val * 288 + (i 1).val) * 784 + (i 2).val) / 784 % 9 / 3
      + (((i 0).val * 288 + (i 1).val) * 784 + (i 2).val) / 28 % 28 = _
    omega
  · show (((i 0).val * 288 + (i 1).val) * 784 + (i 2).val) / 784 % 9 % 3
      + (((i 0).val * 288 + (i 1).val) * 784 + (i 2).val) % 28 = _
    omega

end Cert.RefPatch

end
-- ==== Proof.RefTap.lean ====
/-
  One term of the reference's sum: at an image, an output channel, a row `k` of the patch and a pixel, the tap
  (`Tap.refTap`) of the patch's entry on the shared grid with that weight's three values.
-/
module

public import proofs.«01_k».proof.Proof.RefOrder
public import proofs.«01_k».proof.Proof.RefPatch
public import proofs.«01_k».proof.Proof.Tap

@[expose] public section

noncomputable section

namespace Cert.RefTap

open Cert.ReferenceIdeal Cert.ReferenceIdeal.Gen Cert.ReferenceIdeal.Read Cert.RefOrder Cert.Tap Idealize.ShloMosaic

variable {x0 : (⟨S2x32x28x28, .f32⟩ : BufTy).Contents (Elt Ideal)}
  {x1 x2 : (⟨S32x32x3x3x3, .f32⟩ : BufTy).Contents (Elt Ideal)} {g : Fin 3 → EReal}

/-! ## The columns of the sorted breakpoints and values -/

/-- The three values of the weight of output channel `o` and row `k` of the patch. -/
def vals (x2 : S32x32x3x3x3.Idx → EReal) (o : Fin 32) (k : Fin 288) (j : Fin 3) : EReal :=
  x2 (ValueIdx.ix5 o ⟨k.val / 9, by omega⟩ ⟨k.val % 9 / 3, by omega⟩ ⟨k.val % 3, by omega⟩ j)

/-- The reshaped values at an index. -/
theorem value_apply (i : S32x288x3.Idx) (o : Fin 32) (k : Fin 288) (j : Fin 3) (h0 : (i 0).val = o.val)
    (h1 : (i 1).val = k.val) (h2 : (i 2).val = j.val) : val_main_v22 (F := Ideal) x2 i = vals x2 o k j := by
  refine (val_main_v22_apply x2 i).trans (congrArg x2 (funext fun a => Fin.ext ?_))
  have l0 := o.isLt
  have l1 := k.isLt
  have l2 := j.isLt
  match a with
  | ⟨0, _⟩ => show (((i 0).val * 288 + (i 1).val) * 3 + (i 2).val) / 864 = o.val; omega
  | ⟨1, _⟩ => show (((i 0).val * 288 + (i 1).val) * 3 + (i 2).val) / 27 % 32 = k.val / 9; omega
  | ⟨2, _⟩ => show (((i 0).val * 288 + (i 1).val) * 3 + (i 2).val) / 9 % 3 = k.val % 9 / 3; omega
  | ⟨3, _⟩ => show (((i 0).val * 288 + (i 1).val) * 3 + (i 2).val) / 3 % 3 = k.val % 3; omega
  | ⟨4, _⟩ => show (((i 0).val * 288 + (i 1).val) * 3 + (i 2).val) % 3 = j.val; omega

/-- A column's row, through the reshape that drops the unit axis. -/
theorem row_coord (i : S1x32x288x1.Idx) : ((i 1).val * 288 + (i 2).val) / 288 = (i 1).val := by
  have h2 : (i 2).val < 288 := (i 2).isLt
  omega

/-- A column's row of the patch, through the reshape that drops the unit axis. -/
theorem tap_coord (i : S1x32x288x1.Idx) : ((i 1).val * 288 + (i 2).val) / 1 % 288 = (i 2).val := by
  have h2 : (i 2).val < 288 := (i 2).isLt
  omega

section Columns

variable (h : Shared x1 g) (i : S1x32x288x1.Idx)
include h

theorem p30 : val_main_v30 (F := Ideal) x1 i = g 1 :=
  (val_main_v30_apply x1 i).trans ((val_main_v29_apply x1 _).trans ((val_main_v28_apply x1 _).trans (sorted_positions h _)))
theorem p38 : val_main_v38 (F := Ideal) x1 i = g 2 :=
  (val_main_v38_apply x1 i).trans ((val_main_v37_apply x1 _).trans ((val_main_v36_apply x1 _).trans (sorted_positions h _)))
theorem p48 : val_main_v48 (F := Ideal) x1 i = g 0 :=
  (val_main_v48_apply x1 i).trans ((val_main_v47_apply x1 _).trans ((val_main_v46_apply x1 _).trans (sorted_positions h _)))
theorem p51 : val_main_v51 (F := Ideal) x1 i = g 1 :=
  (val_main_v51_apply x1 i).trans ((val_main_v50_apply x1 _).trans ((val_main_v49_apply x1 _).trans (sorted_positions h _)))
theorem p79 : val_main_v79 (F := Ideal) x1 i = g 1 :=
  (val_main_v79_apply x1 i).trans ((val_main_v78_apply x1 _).trans ((val_main_v77_apply x1 _).trans (sorted_positions h _)))
theorem p82 : val_main_v82 (F := Ideal) x1 i = g 2 :=
  (val_main_v82_apply x1 i).trans ((val_main_v81_apply x1 _).trans ((val_main_v80_apply x1 _).trans (sorted_positions h _)))
theorem p110 : val_main_v110 (F := Ideal) x1 i = g 0 :=
  (val_main_v110_apply x1 i).trans ((val_main_v109_apply x1 _).trans ((val_main_v108_apply x1 _).trans (sorted_positions h _)))
theorem p113 : val_main_v113 (F := Ideal) x1 i = g 2 :=
  (val_main_v113_apply x1 i).trans ((val_main_v112_apply x1 _).trans ((val_main_v111_apply x1 _).trans (sorted_positions h _)))
theorem v54 : val_main_v54 (F := Ideal) x1 x2 i = vals x2 (i 1) (i 2) 0 :=
  (val_main_v54_apply x1 x2 i).trans ((val_main_v53_apply x1 x2 _).trans ((val_main_v52_apply x1 x2 _).trans
    ((sorted_values h _).trans (value_apply _ (i 1) (i 2) 0 (row_coord i) (tap_coord i) rfl))))
theorem v57 : val_main_v57 (F := Ideal) x1 x2 i = vals x2 (i 1) (i 2) 1 :=
  (val_main_v57_apply x1 x2 i).trans ((val_main_v56_apply x1 x2 _).trans ((val_main_v55_apply x1 x2 _).trans
    ((sorted_values h _).trans (value_apply _ (i 1) (i 2) 1 (row_coord i) (tap_coord i) rfl))))
theorem v85 : val_main_v85 (F := Ideal) x1 x2 i = vals x2 (i 1) (i 2) 1 :=
  (val_main_v85_apply x1 x2 i).trans ((val_main_v84_apply x1 x2 _).trans ((val_main_v83_apply x1 x2 _).trans
    ((sorted_values h _).trans (value_apply _ (i 1) (i 2) 1 (row_coord i) (tap_coord i) rfl))))
theorem v88 : val_main_v88 (F := Ideal) x1 x2 i = vals x2 (i 1) (i 2) 2 :=
  (val_main_v88_apply x1 x2 i).trans ((val_main_v87_apply x1 x2 _).trans ((val_main_v86_apply x1 x2 _).trans
    ((sorted_values h _).trans (value_apply _ (i 1) (i 2) 2 (row_coord i) (tap_coord i) rfl))))
theorem v119 : val_main_v119 (F := Ideal) x1 x2 i = vals x2 (i 1) (i 2) 0 :=
  (val_main_v119_apply x1 x2 i).trans ((val_main_v118_apply x1 x2 _).trans ((val_main_v117_apply x1 x2 _).trans
    ((sorted_values h _).trans (value_apply _ (i 1) (i 2) 0 (row_coord i) (tap_coord i) rfl))))
theorem v126 : val_main_v126 (F := Ideal) x1 x2 i = vals x2 (i 1) (i 2) 2 :=
  (val_main_v126_apply x1 x2 i).trans ((val_main_v125_apply x1 x2 _).trans ((val_main_v124_apply x1 x2 _).trans
    ((sorted_values h _).trans (value_apply _ (i 1) (i 2) 2 (row_coord i) (tap_coord i) rfl))))

end Columns

/-! ## The ramps and the interpolations -/

section Ramps

variable (h : Shared x1 g) (i : S2x32x288x784.Idx)

/-- The patch's entry the term at `i` reads. -/
def entry (x0 : (⟨S2x32x28x28, .f32⟩ : BufTy).Contents (Elt Ideal)) (i : S2x32x288x784.Idx) : EReal :=
  val_main_v20 (F := Ideal) x0 (ValueIdx.ix3 (i 0) (i 2) (i 3))

theorem x31 : val_main_v31 (F := Ideal) x0 i = entry x0 i :=
  (val_main_v31_apply x0 i).trans ((val_main_v26_apply x0 _).trans (congrArg _ (ValueIdx.eq_ix3 _)))
theorem x39 : val_main_v39 (F := Ideal) x0 i = entry x0 i :=
  (val_main_v39_apply x0 i).trans ((val_main_v26_apply x0 _).trans (congrArg _ (ValueIdx.eq_ix3 _)))
theorem x58 : val_main_v58 (F := Ideal) x0 i = entry x0 i :=
  (val_main_v58_apply x0 i).trans ((val_main_v26_apply x0 _).trans (congrArg _ (ValueIdx.eq_ix3 _)))
theorem x89 : val_main_v89 (F := Ideal) x0 i = entry x0 i :=
  (val_main_v89_apply x0 i).trans ((val_main_v26_apply x0 _).trans (congrArg _ (ValueIdx.eq_ix3 _)))
theorem x114 : val_main_v114 (F := Ideal) x0 i = entry x0 i :=
  (val_main_v114_apply x0 i).trans ((val_main_v26_apply x0 _).trans (congrArg _ (ValueIdx.eq_ix3 _)))
theorem x121 : val_main_v121 (F := Ideal) x0 i = entry x0 i :=
  (val_main_v121_apply x0 i).trans ((val_main_v26_apply x0 _).trans (congrArg _ (ValueIdx.eq_ix3 _)))

/-- A clipped quotient is a ramp. -/
theorem clip (x p q : EReal) :
    min (Ideal.ofBits .f32 0x3F800000#32) (max (Ideal.ofBits .f32 0x00000000#32)
      (Ideal.div (x - p) (q - p + Ideal.ofBits .f32 0x358637BD#32))) = ramp x p q := by
  rw [Ideal.ofBits_one_f32, Ideal.ofBits_zero_f32]; rfl

/-- A choice by a float comparison is a conditional. -/
theorem select_ofBool {α : Type} (c : Prop) [Decidable c] (a b : α) :
    Scalar.select (BitVec.ofBool (decide c)) a b = if c then a else b := by
  by_cases hc : c
  · rw [if_pos hc, decide_eq_true hc]; rfl
  · rw [if_neg hc, decide_eq_false hc]; rfl

include h

/-- The first interval's ramp. -/
theorem ramp01 : val_main_v66 (F := Ideal) x0 x1 i = ramp (entry x0 i) (g 0) (g 1) := by
  rw [val_main_v66_apply, val_main_call5_v4_apply, val_main_call5_v3_apply, val_main_cst_5_apply,
    val_main_call5_v2_apply, val_main_call5_v1_apply, val_main_call5_v0_apply, val_main_cst_4_apply, val_main_v65_apply,
    val_main_v60_apply, x58, val_main_v59_apply, p48 h, val_main_v64_apply, val_main_v63_apply, val_main_v61_apply,
    p51 h, p48 h, val_main_v62_apply, val_main_cst_3_apply]
  exact clip _ _ _

/-- The second interval's ramp. -/
theorem ramp12 : val_main_v97 (F := Ideal) x0 x1 i = ramp (entry x0 i) (g 1) (g 2) := by
  rw [val_main_v97_apply, val_main_call8_v4_apply, val_main_call8_v3_apply, val_main_cst_9_apply,
    val_main_call8_v2_apply, val_main_call8_v1_apply, val_main_call8_v0_apply, val_main_cst_8_apply, val_main_v96_apply,
    val_main_v91_apply, x89, val_main_v90_apply, p79 h, val_main_v95_apply, val_main_v94_apply, val_main_v92_apply,
    p82 h, p79 h, val_main_v93_apply, val_main_cst_7_apply]
  exact clip _ _ _

/-- The first interval's interpolation. -/
theorem interp01 : val_main_v73 (F := Ideal) x0 x1 x2 i
    = if g 0 = g 1 then vals x2 (i 1) (i 2) 0 else
      vals x2 (i 1) (i 2) 0 + ramp (entry x0 i) (g 0) (g 1) * (vals x2 (i 1) (i 2) 1 - vals x2 (i 1) (i 2) 0) := by
  rw [val_main_v73_apply, val_main_call6_v0_apply, val_main_v67_apply, p48 h, p51 h, val_main_call6_v1_apply, v54 h,
    val_main_v72_apply, val_main_v71_apply, v54 h, val_main_v70_apply, ramp01 h, val_main_v69_apply,
    val_main_v68_apply, v57 h, v54 h]
  exact select_ofBool _ _ _

/-- The second interval's interpolation. -/
theorem interp12 : val_main_v104 (F := Ideal) x0 x1 x2 i
    = if g 1 = g 2 then vals x2 (i 1) (i 2) 1 else
      vals x2 (i 1) (i 2) 1 + ramp (entry x0 i) (g 1) (g 2) * (vals x2 (i 1) (i 2) 2 - vals x2 (i 1) (i 2) 1) := by
  rw [val_main_v104_apply, val_main_call9_v0_apply, val_main_v98_apply, p79 h, p82 h, val_main_call9_v1_apply, v85 h,
    val_main_v103_apply, val_main_v102_apply, v85 h, val_main_v101_apply, ramp12 h, val_main_v100_apply,
    val_main_v99_apply, v88 h, v85 h]
  exact select_ofBool _ _ _

/-- Below the third breakpoint, the interval's number: `1` from the second breakpoint on, else `0`. -/
theorem interval (hx : ¬ g 2 ≤ entry x0 i) :
    val_main_v44 (F := Ideal) x0 x1 i = if g 1 ≤ entry x0 i then 1#32 else 0#32 := by
  have b1 : val_main_v33 (F := Ideal) x0 x1 i = BitVec.ofBool (decide (g 1 ≤ entry x0 i)) := by
    rw [val_main_v33_apply, x31, val_main_v32_apply, p30 h]; rfl
  have b2 : val_main_v41 (F := Ideal) x0 x1 i = 0#1 := by
    rw [val_main_v41_apply, x39, val_main_v40_apply, p38 h]
    show BitVec.ofBool (decide (g 2 ≤ entry x0 i)) = 0#1
    rw [decide_eq_false hx]; rfl
  rw [val_main_v44_apply, val_main_call4_v4_apply, val_main_call4_v3_apply, val_main_c_2_apply, val_main_call4_v2_apply,
    val_main_call4_v1_apply, val_main_call4_v0_apply, val_main_c_1_apply, val_main_v43_apply, val_main_v35_apply,
    val_main_v27_apply, val_main_c_0_apply, val_main_v34_apply, val_main_v42_apply, b1, b2]
  by_cases hc : g 1 ≤ entry x0 i
  · rw [decide_eq_true hc, if_pos hc]; rfl
  · rw [decide_eq_false hc, if_neg hc]; rfl

/-- THE TERM at an index is the reference's tap. -/
theorem term_apply : val_main_v127 (F := Ideal) x0 x1 x2 i = refTap (entry x0 i) g (vals x2 (i 1) (i 2)) := by
  have top : val_main_v123 (F := Ideal) x0 x1 i = BitVec.ofBool (decide (g 2 ≤ entry x0 i)) := by
    rw [val_main_v123_apply, x121, val_main_v122_apply, p113 h]; rfl
  have low : val_main_v116 (F := Ideal) x0 x1 i = BitVec.ofBool (decide (entry x0 i ≤ g 0)) := by
    rw [val_main_v116_apply, x114, val_main_v115_apply, p110 h]; rfl
  rw [val_main_v127_apply, top, select_ofBool, val_main_call12_v0_apply, v126 h, val_main_v120_apply, low, select_ofBool,
    val_main_call11_v0_apply, v119 h]
  unfold refTap
  by_cases h2 : g 2 ≤ entry x0 i
  · rw [if_pos h2, if_pos h2]; rfl
  rw [if_neg h2, if_neg h2]
  by_cases h0 : entry x0 i ≤ g 0
  · rw [if_pos h0, if_pos h0]; rfl
  rw [if_neg h0, if_neg h0, val_main_v107_apply, val_main_v106_apply, val_main_v105_apply, val_main_c_10_apply,
    val_main_v76_apply, val_main_v75_apply, val_main_v74_apply, val_main_c_6_apply, interval h i h2, interp01 h,
    interp12 h]
  by_cases h1 : g 1 ≤ entry x0 i
  · rw [if_pos h1, if_pos h1]; rfl
  · rw [if_neg h1, if_neg h1]; rfl

end Ramps

end Cert.RefTap

end
-- ==== Proof.KernelSum.lean ====
/-
  The kernel's result at a pixel, over the arguments: the sum over the 288 rows of the pixel's patch of the kernel's tap
  (`result_apply`). The rows and columns of the kernel's operands are read as coordinates of the arguments, and the sum over
  channel, tap row and tap column as one sum over the rows of the patch.
-/
module

public import proofs.«01_k».proof.Proof.Run
public import proofs.«01_k».proof.Proof.RefTap
public import proofs.«01_k».proof.Proof.Image

@[expose] public section

noncomputable section

namespace Cert.KernelSum

open Cert.KernelIdeal Cert.KernelIdeal.Gen Cert.Staged Cert.Basis Cert.Weights Cert.Product Cert.Block Cert.Run Cert.Tap Cert.Image
open Idealize.ShloMosaic

/-! ## The operands' rows as coordinates of the arguments -/

/-- A row of the image operand. -/
theorem imageRows_apply (x : S2x32x28x28.Idx → EReal) (n : Fin 1568) (b : Fin 2) (c : Fin 32) (h w : Fin 28)
    (hn : n.val = (28 * h.val + w.val) * 2 + b.val) : imageRows x (ValueIdx.ix2 n c) = x (ValueIdx.ix4 b c h w) := by
  unfold imageRows
  refine (shapeCast_apply _ _ (ValueIdx.ix2 n c) (ValueIdx.ix4 h w b c) ?_).trans ?_
  · rw [Shape.rowMajor_val_four, Shape.rowMajor_val_two]
    show ((h.val * 28 + w.val) * 2 + b.val) * 32 + c.val = n.val * 32 + c.val
    omega
  · exact transpose_apply [2, 3, 0, 1] x _ (ValueIdx.ix4 h w b c) (ValueIdx.ix4 b c h w) fun a => by
      match a with | ⟨0, _⟩ => rfl | ⟨1, _⟩ => rfl | ⟨2, _⟩ => rfl | ⟨3, _⟩ => rfl

/-- A row of a weight operand. -/
theorem weightRows_apply (p : S32x32x3x3x3.Idx → EReal) (n : Fin 864) (o c : Fin 32) (r d k : Fin 3)
    (hn : n.val = ((3 * r.val + d.val) * 3 + k.val) * 32 + o.val) :
    weightRows p (ValueIdx.ix2 n c) = p (ValueIdx.ix5 o c r d k) := by
  unfold weightRows
  refine (shapeCast_apply _ _ (ValueIdx.ix2 n c) (ValueIdx.ix5 r d k o c) ?_).trans ?_
  · rw [Shape.rowMajor_val_five, Shape.rowMajor_val_two]
    show (((r.val * 3 + d.val) * 3 + k.val) * 32 + o.val) * 32 + c.val = n.val * 32 + c.val
    omega
  · exact transpose_apply [2, 3, 4, 0, 1] p _ (ValueIdx.ix5 r d k o c) (ValueIdx.ix5 o c r d k) fun a => by
      match a with | ⟨0, _⟩ => rfl | ⟨1, _⟩ => rfl | ⟨2, _⟩ => rfl | ⟨3, _⟩ => rfl | ⟨4, _⟩ => rfl

/-- The output's rows read back as an image, at a pixel. -/
theorem imageOf_at (y : S1568x32.Idx → EReal) (b : Fin 2) (o : Fin 32) (h w : Fin 28) (n : Fin 1568)
    (hn : n.val = (28 * h.val + w.val) * 2 + b.val) : imageOf y (ValueIdx.ix4 b o h w) = y (ValueIdx.ix2 n o) := by
  unfold imageOf
  refine (transpose_apply [2, 3, 0, 1] _ _ (ValueIdx.ix4 b o h w) (ValueIdx.ix4 h w b o) fun a => by
    match a with | ⟨0, _⟩ => rfl | ⟨1, _⟩ => rfl | ⟨2, _⟩ => rfl | ⟨3, _⟩ => rfl).trans ?_
  refine shapeCast_apply _ _ (ValueIdx.ix4 h w b o) (ValueIdx.ix2 n o) ?_
  rw [Shape.rowMajor_val_four, Shape.rowMajor_val_two]
  show n.val * 32 + o.val = ((h.val * 28 + w.val) * 2 + b.val) * 32 + o.val
  omega

/-- The same at an index. -/
theorem imageOf_apply (y : S1568x32.Idx → EReal) (i : S2x32x28x28.Idx) (n : Fin 1568)
    (hn : n.val = (28 * (i 2).val + (i 3).val) * 2 + (i 0).val) : imageOf y i = y (ValueIdx.ix2 n (i 1)) :=
  (congrArg (imageOf y) (ValueIdx.eq_ix4 i)).trans (imageOf_at y (i 0) (i 1) (i 2) (i 3) n hn)

/-- A staged column is an entry of the padded image: column `60 y + 2 z + b` is row `y`, column `z`, image `b`. -/
theorem cols_apply (x : S2x32x28x28.Idx → EReal) (b : Fin 2) (c : Fin 32) (y z q : ℕ) (hz : z < 30)
    (hq : q = 60 * y + 2 * z + b.val) : cols (imageRows x) c q = padded x b c y z := by
  have hb := b.isLt
  have hy : q / 60 = y := by omega
  have hm : q % 60 = 2 * z + b.val := by omega
  unfold cols
  by_cases h : (1 ≤ y ∧ y ≤ 28) ∧ (1 ≤ z ∧ z ≤ 28)
  · rw [dif_pos (by omega)]
    refine (imageRows_apply x _ b c ⟨y - 1, by omega⟩ ⟨z - 1, by omega⟩ ?_).trans
      (padded_inside x b c ⟨y - 1, by omega⟩ ⟨z - 1, by omega⟩ ?_ ?_).symm
    · show 56 * (q / 60 - 1) + (q % 60 - 2) = (28 * (y - 1) + (z - 1)) * 2 + b.val
      omega
    · show y = y - 1 + 1
      omega
    · show z = z - 1 + 1
      omega
  · rw [dif_neg (by omega)]
    exact (padded_border x b c h).symm

/-! ## The rows of a patch -/

/-- The row of the patch at channel `c`, tap row `r` and tap column `d`. -/
def patchRow (c : Fin 32) (r d : Fin 3) : Fin 288 := ⟨9 * c.val + 3 * r.val + d.val, by omega⟩

/-- A sum over channel, tap row and tap column is one over the patch's rows. -/
theorem sum_patch (f : Fin 288 → EReal) : ∑ c : Fin 32, ∑ r : Fin 3, ∑ d : Fin 3, f (patchRow c r d) = ∑ k : Fin 288, f k := by
  have e1 := (finProdFinEquiv (m := 32) (n := 9)).sum_comp (fun k : Fin (32 * 9) => f k)
  rw [Fintype.sum_prod_type] at e1
  refine Eq.trans (Finset.sum_congr rfl fun c _ => ?_) e1
  have e2 := (finProdFinEquiv (m := 3) (n := 3)).sum_comp (fun k : Fin (3 * 3) => f (finProdFinEquiv (m := 32) (n := 9) (c, k)))
  rw [Fintype.sum_prod_type] at e2
  refine Eq.trans (Finset.sum_congr rfl fun r _ => Finset.sum_congr rfl fun d _ => congrArg f (Fin.ext ?_)) e2
  show 9 * c.val + 3 * r.val + d.val = d.val + 3 * r.val + 9 * c.val
  omega

variable (x0 : S2x32x28x28.Idx → EReal) (x1 x2 : S32x32x3x3x3.Idx → EReal) (g : Fin 3 → EReal)

/-- The kernel's values are the reference's. -/
theorem value_eq (r d k : Fin 3) (o c : Fin 32) : value (weightRows x2) r d k o c = RefTap.vals x2 o (patchRow c r d) k := by
  unfold value RefTap.vals
  refine (weightRows_apply x2 _ o c r d k ?_).trans (congrArg x2 (funext fun a => Fin.ext ?_))
  · show (3 * r.val + d.val) * 96 + 32 * k.val + o.val = ((3 * r.val + d.val) * 3 + k.val) * 32 + o.val
    omega
  · match a with
    | ⟨0, _⟩ => rfl
    | ⟨1, _⟩ => show c.val = (9 * c.val + 3 * r.val + d.val) / 9; omega
    | ⟨2, _⟩ => show r.val = (9 * c.val + 3 * r.val + d.val) % 9 / 3; omega
    | ⟨3, _⟩ => show d.val = (9 * c.val + 3 * r.val + d.val) % 3; omega
    | ⟨4, _⟩ => rfl

/-- The three breakpoints that the kernel loads are the grid. -/
theorem grid_eq (h : RefOrder.Shared x1 g) (k : Fin 3) : grid (weightRows x1) k = g k := by
  unfold grid
  refine (weightRows_apply x1 _ 0 0 0 0 k ?_).trans (h.eq _)
  show 32 * k.val = ((3 * 0 + 0) * 3 + k.val) * 32 + 0
  omega

/-- One product and its bias are one tap of the patch. -/
theorem tap_eq (sh : RefOrder.Shared x1 g) (d01 : g 1 - g 0 + guard ≠ 0) (d12 : g 2 - g 1 + guard ≠ 0)
    (b : Fin 2) (h w : Fin 28) (n : ℕ) (hn : n = (28 * h.val + w.val) * 2 + b.val) (o c : Fin 32) (r d : Fin 3) :
    term (imageRows x0) (weightRows x1) (weightRows x2) r d o c (60 * (n / 56) + n % 56 + 60 * r.val + 2 * d.val)
        + value (weightRows x2) r d 1 o c
      = kernelTap (patchAt x0 b (patchRow c r d) h.val w.val) g (RefTap.vals x2 o (patchRow c r d)) := by
  have hx : cols (imageRows x0) c (60 * (n / 56) + n % 56 + 60 * r.val + 2 * d.val)
      = patchAt x0 b (patchRow c r d) h.val w.val := by
    refine (cols_apply x0 b c (r.val + h.val) (d.val + w.val) _ (by omega) (by omega)).trans ?_
    unfold patchAt
    refine padded_congr x0 rfl (Fin.ext ?_) ?_ ?_
    · show c.val = (9 * c.val + 3 * r.val + d.val) / 9
      omega
    · show r.val + h.val = (9 * c.val + 3 * r.val + d.val) % 9 / 3 + h.val
      omega
    · show d.val + w.val = (9 * c.val + 3 * r.val + d.val) % 3 + w.val
      omega
  unfold term kernelTap
  rw [hx, grid_eq x1 g sh, grid_eq x1 g sh, grid_eq x1 g sh, value_eq, value_eq, value_eq, slope_eq_ramp d01,
    slope_eq_ramp d12]

/-- THE KERNEL'S RESULT AT A PIXEL: the sum of its taps over the rows of the patch. -/
theorem result_apply (sh : RefOrder.Shared x1 g) (d01 : g 1 - g 0 + guard ≠ 0) (d12 : g 2 - g 1 + guard ≠ 0)
    (i : S2x32x28x28.Idx) :
    imageOf (output (imageRows x0) (weightRows x1) (weightRows x2)) i
      = ∑ k : Fin 288, kernelTap (patchAt x0 (i 0) k (i 2).val (i 3).val) g (RefTap.vals x2 (i 1) k) := by
  have hb : (i 0).val < 2 := (i 0).isLt
  have hh : (i 2).val < 28 := (i 2).isLt
  have hw : (i 3).val < 28 := (i 3).isLt
  rw [imageOf_apply _ i ⟨(28 * (i 2).val + (i 3).val) * 2 + (i 0).val, by omega⟩ rfl, ← sum_patch]
  unfold output entry
  exact Finset.sum_congr rfl fun c _ => Finset.sum_congr rfl fun r _ => Finset.sum_congr rfl fun d _ =>
    tap_eq x0 x1 x2 g sh d01 d12 (i 0) (i 2) (i 3) _ rfl (i 1) c r d

end Cert.KernelSum

end
-- ==== Proof.RefValue.lean ====
/-
  The reference's result at an index: the sum over the 288 rows of the patch of the reference's tap.
-/
module

public import proofs.«01_k».proof.Proof.RefTap

@[expose] public section

noncomputable section

namespace Cert.RefValue

open Cert.ReferenceIdeal Cert.ReferenceIdeal.Gen Cert.ReferenceIdeal.Read Cert.RefOrder Cert.RefTap Cert.Tap Cert.Image
open Idealize.ShloMosaic

variable {x0 : (⟨S2x32x28x28, .f32⟩ : BufTy).Contents (Elt Ideal)}
  {x1 x2 : (⟨S32x32x3x3x3, .f32⟩ : BufTy).Contents (Elt Ideal)} {g : Fin 3 → EReal}

/-- THE REFERENCE'S RESULT. -/
theorem result_apply (h : Shared x1 g) (i : S2x32x28x28.Idx) :
    val_main_v129 (F := Ideal) x0 x1 x2 i
      = ∑ k : Fin 288, refTap (patchAt x0 (i 0) k (i 2).val (i 3).val) g (vals x2 (i 1) k) := by
  have h0 : (i 0).val < 2 := (i 0).isLt
  have h1 : (i 1).val < 32 := (i 1).isLt
  have h2 : (i 2).val < 28 := (i 2).isLt
  have h3 : (i 3).val < 28 := (i 3).isLt
  rw [val_main_v129_apply, val_main_v128_apply, val_main_cst_11_apply]
  show Ideal.ofBits .f32 0x00000000#32 + _ = _
  rw [Ideal.ofBits_zero_f32, zero_add]
  refine Finset.sum_congr rfl fun k _ => ?_
  rw [term_apply h]
  have e1 : idx_main_v128 (idx_main_v129 i) k 1 = i 1 := Fin.ext (by
    show ((((i 0).val * 32 + (i 1).val) * 28 + (i 2).val) * 28 + (i 3).val) / 784 % 32 = (i 1).val
    omega)
  refine congr (congr (congrArg refTap ?_) rfl) (congr (congrArg (vals x2) e1) rfl)
  refine (RefPatch.patch_apply x0 _).trans (padded_congr x0 (Fin.ext ?_) rfl ?_ ?_)
  · show ((((i 0).val * 32 + (i 1).val) * 28 + (i 2).val) * 28 + (i 3).val) / 25088 = (i 0).val
    omega
  · show k.val % 9 / 3 + ((((i 0).val * 32 + (i 1).val) * 28 + (i 2).val) * 28 + (i 3).val) % 784 / 28 = _
    omega
  · show k.val % 3 + ((((i 0).val * 32 + (i 1).val) * 28 + (i 2).val) * 28 + (i 3).val) % 784 % 28 = _
    omega

end Cert.RefValue

end
-- ==== Proof.Assumed.lean ====
/-
  The precondition read: one grid of three real breakpoints in order, shared by all weights, and real values.
-/
module

public import proofs.«01_k».proof.Defs
public import proofs.«01_k».proof.Proof.RefTap
public import proofs.«01_k».proof.Proof.Gen.Pre_shared_grid
public import Idealize.ShloMosaic.Lib.Pipeline.Value

@[expose] public section

noncomputable section

namespace Cert.Assumed

open Cert.Pre_shared_grid Cert.Pre_shared_grid.Facts Cert.Tap Idealize.ShloMosaic Idealize.ShloMosaic.ValueIdx

/-! ## Comparisons that hold -/

/-- A bit made of a decision is one exactly when the decision is positive. -/
theorem of_bit {p : Prop} [Decidable p] (h : BitVec.ofBool (decide p) = 1#1) : p := by
  by_contra hp
  rw [decide_eq_false hp] at h
  exact absurd h (by decide)

/-- A number whose absolute value is below infinity is real. -/
theorem real_of_abs {a : EReal} (h : max a (-a) < ⊤) : ∃ r : ℝ, a = (r : EReal) := by
  have ht : a ≠ ⊤ := fun e => absurd (lt_of_le_of_lt (le_max_left a (-a)) h) (by rw [e]; exact lt_irrefl _)
  have hb : a ≠ ⊥ := fun e => absurd (lt_of_le_of_lt (le_max_right a (-a)) h) (by rw [e, EReal.neg_bot]; exact lt_irrefl _)
  exact ⟨a.toReal, (EReal.coe_toReal ht hb).symm⟩

/-- The comparison's bound is infinity. -/
theorem bound_top : Ideal.ofBits .f32 0x7F800000#32 = ⊤ := by simp [Ideal.ofBits, Ideal.ieee]

variable [Facts] (x0 : S2x32x28x28.Idx → EReal) (x1 x2 : S32x32x3x3x3.Idx → EReal)

/-- The breakpoints of the first weight. -/
def gridOf (k : Fin 3) : EReal := x1 (ix5 0 0 0 0 k)

/-- The predicate's slice of the positions holds them. -/
theorem slice_apply (j : S1x1x1x1x3.Idx) :
    extractStridedSlice S1x1x1x1x3 ![0, 0, 0, 0, 0] x1 slices_S32x32x3x3x3_S1x1x1x1x3_0_0_0_0_0 j = gridOf x1 (j 4) := by
  have h0 : (j 0).val < 1 := (j 0).isLt
  have h1 : (j 1).val < 1 := (j 1).isLt
  have h2 : (j 2).val < 1 := (j 2).isLt
  have h3 : (j 3).val < 1 := (j 3).isLt
  refine extractStridedSlice_apply ![0, 0, 0, 0, 0] x1 _ j (ix5 0 0 0 0 (j 4)) fun a => ?_
  match a with
  | ⟨0, _⟩ => show 0 = 0 + (j 0).val; omega
  | ⟨1, _⟩ => show 0 = 0 + (j 1).val; omega
  | ⟨2, _⟩ => show 0 = 0 + (j 2).val; omega
  | ⟨3, _⟩ => show 0 = 0 + (j 3).val; omega
  | ⟨4, _⟩ => show (j 4).val = 0 + (j 4).val; omega

/-- A one-entry slice of that slice holds one of them. -/
theorem entry_apply (k : Fin 3) (h : S1x1x1x1x3.Slices ![0, 0, 0, 0, k.val] S1x1x1x1x1) (j : S1x1x1x1x1.Idx) :
    extractStridedSlice S1x1x1x1x1 ![0, 0, 0, 0, k.val] (extractStridedSlice S1x1x1x1x3 ![0, 0, 0, 0, 0] x1
      slices_S32x32x3x3x3_S1x1x1x1x3_0_0_0_0_0) h j = gridOf x1 k := by
  have h4 : (j 4).val < 1 := (j 4).isLt
  refine (extractStridedSlice_apply ![0, 0, 0, 0, k.val] _ h j (ix5 0 0 0 0 k) fun a => ?_).trans (slice_apply x1 _)
  match a with
  | ⟨0, _⟩ => show 0 = 0 + (j 0).val; have h0 : (j 0).val < 1 := (j 0).isLt; omega
  | ⟨1, _⟩ => show 0 = 0 + (j 1).val; have h0 : (j 1).val < 1 := (j 1).isLt; omega
  | ⟨2, _⟩ => show 0 = 0 + (j 2).val; have h0 : (j 2).val < 1 := (j 2).isLt; omega
  | ⟨3, _⟩ => show 0 = 0 + (j 3).val; have h0 : (j 3).val < 1 := (j 3).isLt; omega
  | ⟨4, _⟩ => show k.val = k.val + (j 4).val; omega

/-- Every weight has the breakpoints of the first. -/
theorem same (h : (fn (F := Ideal) x0 x1 x2).1 = fun _ => 1#1) (i : S32x32x3x3x3.Idx) : x1 i = gridOf x1 (i 4) := by
  refine (of_bit (p := x1 i = _) (congrFun h i)).trans ?_
  refine (broadcastInDim_apply ![0, 1, 2, 3, 4] _ _ i (ix5 0 0 0 0 (i 4)) fun a => ?_).trans (slice_apply x1 _)
  match a with | ⟨0, _⟩ => rfl | ⟨1, _⟩ => rfl | ⟨2, _⟩ => rfl | ⟨3, _⟩ => rfl | ⟨4, _⟩ => rfl

/-- The first two breakpoints are in order. -/
theorem first_le (h : (fn (F := Ideal) x0 x1 x2).2.1 = fun _ => 1#1) : gridOf x1 0 ≤ gridOf x1 1 := by
  have e := of_bit (congrFun h (ix5 0 0 0 0 0))
  exact (entry_apply x1 0 slices_S1x1x1x1x3_S1x1x1x1x1_0_0_0_0_0 _).symm.trans_le
    (e.trans_eq (entry_apply x1 1 slices_S1x1x1x1x3_S1x1x1x1x1_0_0_0_0_1 _))

/-- The last two breakpoints are in order. -/
theorem second_le (h : (fn (F := Ideal) x0 x1 x2).2.2.1 = fun _ => 1#1) : gridOf x1 1 ≤ gridOf x1 2 := by
  have e := of_bit (congrFun h (ix5 0 0 0 0 0))
  exact (entry_apply x1 1 slices_S1x1x1x1x3_S1x1x1x1x1_0_0_0_0_1 _).symm.trans_le
    (e.trans_eq (entry_apply x1 2 slices_S1x1x1x1x3_S1x1x1x1x1_0_0_0_0_2 _))

/-- The breakpoints are real. -/
theorem grid_real (h : (fn (F := Ideal) x0 x1 x2).2.2.2.1 = fun _ => 1#1) (k : Fin 3) : ∃ r : ℝ, gridOf x1 k = (r : EReal) := by
  refine real_of_abs ?_
  have e := of_bit (congrFun h (ix5 0 0 0 0 k))
  exact lt_of_eq_of_lt (congrArg (fun z : EReal => max z (-z)) (slice_apply x1 (ix5 0 0 0 0 k)).symm) (e.trans_eq bound_top)

/-- The values are real. -/
theorem value_real (h : (fn (F := Ideal) x0 x1 x2).2.2.2.2 = fun _ => 1#1) (i : S32x32x3x3x3.Idx) : ∃ r : ℝ, x2 i = (r : EReal) := by
  have e := of_bit (congrFun h i)
  exact real_of_abs (e.trans_eq bound_top)

/-- THE PRECONDITION READ, of the arguments of one device. -/
theorem of_pre (h1 : (fn (F := Ideal) x0 x1 x2).1 = fun _ => 1#1) (h2 : (fn (F := Ideal) x0 x1 x2).2.1 = fun _ => 1#1)
    (h3 : (fn (F := Ideal) x0 x1 x2).2.2.1 = fun _ => 1#1) (h4 : (fn (F := Ideal) x0 x1 x2).2.2.2.1 = fun _ => 1#1)
    (h5 : (fn (F := Ideal) x0 x1 x2).2.2.2.2 = fun _ => 1#1) :
    RefOrder.Shared x1 (gridOf x1) ∧ ∀ (o : Fin 32) (k : Fin 288), Grid (gridOf x1) (RefTap.vals x2 o k) := by
  have le01 := first_le x0 x1 x2 h2
  have le12 := second_le x0 x1 x2 h3
  refine ⟨⟨same x0 x1 x2 h1, fun a b hab => ?_⟩, fun o k => ⟨le01, le12, grid_real x0 x1 x2 h4, fun j => value_real x0 x1 x2 h5 _⟩⟩
  have three : ∀ d : Fin 3, d = 0 ∨ d = 1 ∨ d = 2 := by decide
  rcases three a with rfl | rfl | rfl <;> rcases three b with rfl | rfl | rfl <;>
    first
      | exact le_refl _
      | exact le01
      | exact le12
      | exact le01.trans le12
      | exact absurd hab (by decide)

/-- The two ramps' divisors are not zero. -/
theorem divisors {g v : Fin 3 → EReal} (h : Grid g v) : g 1 - g 0 + guard ≠ 0 ∧ g 2 - g 1 + guard ≠ 0 := by
  obtain ⟨p0, e0⟩ := h.p_real 0
  obtain ⟨p1, e1⟩ := h.p_real 1
  obtain ⟨p2, e2⟩ := h.p_real 2
  have l01 := h.le01
  have l12 := h.le12
  rw [e0, e1, EReal.coe_le_coe_iff] at l01
  rw [e1, e2, EReal.coe_le_coe_iff] at l12
  obtain ⟨d, hd, ed, -⟩ := divisor l01
  obtain ⟨d', hd', ed', -⟩ := divisor l12
  rw [e0, e1, e2, ed, ed']
  exact ⟨fun z => hd.ne' (EReal.coe_eq_zero.mp z), fun z => hd'.ne' (EReal.coe_eq_zero.mp z)⟩

end Cert.Assumed

end
-- ==== Proof.Mask.lean ====
/-
  The mask read: where it is set, no entry of the pixel's patch lies in one of the two intervals of one guard's length above
  the second and the third breakpoint.
-/
module

public import proofs.«01_k».proof.Proof.Assumed
public import proofs.«01_k».proof.Proof.Image
public import proofs.«01_k».proof.Proof.Gen.On_clear_of_guard
public import Idealize.ShloMosaic.Lib.Pointwise.Reduce

@[expose] public section

noncomputable section

namespace Cert.Mask

open Cert.On_clear_of_guard Cert.On_clear_of_guard.Facts Cert.Tap Cert.Image Cert.Assumed Idealize.ShloMosaic

variable [Facts] (x0 : S2x32x28x28.Idx → EReal) (x1 x2 : S32x32x3x3x3.Idx → EReal)

/-! ## The mask's parts -/

/-- The padded image. -/
def image : FVec Ideal S2x32x30x30 .f32 :=
  pad S2x32x30x30 ![0, 0, 1, 1] ![0, 0, 1, 1] ![0, 0, 0, 0] x0 (constant (F := Ideal) S_ .f32 0x00000000#32)
    pads_S2x32x28x28_S2x32x30x30_000_000_110_110 h_S_

/-- One breakpoint at each place of the padded image. -/
def point (k : ℕ) (h : S32x32x3x3x3.Slices ![0, 0, 0, 0, k] S1x1x1x1x1) : FVec Ideal S2x32x30x30 .f32 :=
  broadcastInDim S2x32x30x30 ![0, 1, 2, 3] bcast_S1x1x1x1_S2x32x30x30_0_1_2_3
    (shapeCast S1x1x1x1 (extractStridedSlice S1x1x1x1x1 ![0, 0, 0, 0, k] x1 h) shapeCasts_S1x1x1x1x1_S1x1x1x1)

/-- The places within one guard's length above a breakpoint. -/
def near (p : FVec Ideal S2x32x30x30 .f32) : IVec S2x32x30x30 1 :=
  andi (cmpf .oge (image x0) p) (cmpf .olt (image x0)
    (addf p (broadcastInDim S2x32x30x30 ![] bcast_S_S2x32x30x30 (constant (F := Ideal) S_ .f32 0x358637BD#32))))

/-- One where the padded image is near the second or the third breakpoint, else zero. -/
def hit : FVec Ideal S2x32x30x30 .f32 :=
  select (ori (near x0 (point x1 1 slices_S32x32x3x3x3_S1x1x1x1x1_0_0_0_0_1))
      (near x0 (point x1 2 slices_S32x32x3x3x3_S1x1x1x1x1_0_0_0_0_2)))
    (broadcastInDim S2x32x30x30 ![] bcast_S_S2x32x30x30 (constant (F := Ideal) S_ .f32 0x3F800000#32))
    (broadcastInDim S2x32x30x30 ![] bcast_S_S2x32x30x30 (constant (F := Ideal) S_ .f32 0x00000000#32))

/-- One tap's part of the padded array. -/
def part (y : FVec Ideal S2x32x30x30 .f32) (r d : ℕ) (h : S2x32x30x30.Slices ![0, 0, r, d] S2x32x28x28) :
    FVec Ideal S2x32x28x28 .f32 := extractStridedSlice S2x32x28x28 ![0, 0, r, d] y h

/-- The nine parts added. -/
def hits (y : FVec Ideal S2x32x30x30 .f32) : FVec Ideal S2x32x28x28 .f32 :=
  addf (addf (addf (addf (addf (addf (addf (addf (addf
    (broadcastInDim S2x32x28x28 ![] bcast_S_S2x32x28x28 (constant (F := Ideal) S_ .f32 0x00000000#32))
    (part y 0 0 slices_S2x32x30x30_S2x32x28x28_0_0_0_0)) (part y 0 1 slices_S2x32x30x30_S2x32x28x28_0_0_0_1))
    (part y 0 2 slices_S2x32x30x30_S2x32x28x28_0_0_0_2)) (part y 1 0 slices_S2x32x30x30_S2x32x28x28_0_0_1_0))
    (part y 1 1 slices_S2x32x30x30_S2x32x28x28_0_0_1_1)) (part y 1 2 slices_S2x32x30x30_S2x32x28x28_0_0_1_2))
    (part y 2 0 slices_S2x32x30x30_S2x32x28x28_0_0_2_0)) (part y 2 1 slices_S2x32x30x30_S2x32x28x28_0_0_2_1))
    (part y 2 2 slices_S2x32x30x30_S2x32x28x28_0_0_2_2)

/-- The mask is the comparison of the hits, added over the channels, with zero. -/
theorem fn_eq : fn (F := Ideal) x0 x1 x2 = broadcastInDim S2x32x28x28 ![0, 2, 3] bcast_S2x28x28_S2x32x28x28_0_2_3
    (cmpf .oeq (Host.reduceAdd (hits (hit x0 x1)) (constant (F := Ideal) S_ .f32 0x00000000#32)
      reducesTo_S2x32x28x28_S2x28x28_d1 h_S_)
      (broadcastInDim S2x28x28 ![] bcast_S_S2x28x28 (constant (F := Ideal) S_ .f32 0x00000000#32))) := rfl

/-! ## A place that is not hit -/

/-- The breakpoint at each place. -/
theorem point_apply (k : Fin 3) (h : S32x32x3x3x3.Slices ![0, 0, 0, 0, k.val] S1x1x1x1x1) (j : S2x32x30x30.Idx) :
    point x1 k.val h j = gridOf x1 k := by
  unfold point
  refine (broadcastInDim_apply ![0, 1, 2, 3] _ _ j (ValueIdx.ix4 (0 : Fin 1) (0 : Fin 1) (0 : Fin 1) (0 : Fin 1)) fun a => ?_).trans ?_
  · match a with | ⟨0, _⟩ => rfl | ⟨1, _⟩ => rfl | ⟨2, _⟩ => rfl | ⟨3, _⟩ => rfl
  refine (shapeCast_apply _ _ (ValueIdx.ix4 (0 : Fin 1) (0 : Fin 1) (0 : Fin 1) (0 : Fin 1))
    (ValueIdx.ix5 (0 : Fin 1) (0 : Fin 1) (0 : Fin 1) (0 : Fin 1) (0 : Fin 1)) ?_).trans ?_
  · rw [Shape.rowMajor_val_five, Shape.rowMajor_val_four]
    rfl
  · refine extractStridedSlice_apply ![0, 0, 0, 0, k.val] x1 h _ (ValueIdx.ix5 0 0 0 0 k) fun a => ?_
    match a with | ⟨0, _⟩ => rfl | ⟨1, _⟩ => rfl | ⟨2, _⟩ => rfl | ⟨3, _⟩ => rfl | ⟨4, _⟩ => rfl

/-- The bit of a place near a breakpoint. -/
theorem near_apply (k : Fin 3) (h : S32x32x3x3x3.Slices ![0, 0, 0, 0, k.val] S1x1x1x1x1) (j : S2x32x30x30.Idx) :
    near x0 (point x1 k.val h) j = IntOp.andi
      (Ideal.cmp .oge (padded x0 (j 0) (j 1) (j 2).val (j 3).val) (gridOf x1 k))
      (Ideal.cmp .olt (padded x0 (j 0) (j 1) (j 2).val (j 3).val) (gridOf x1 k + guard)) := by
  have e : image x0 j = padded x0 (j 0) (j 1) (j 2).val (j 3).val :=
    pad_eq x0 _ (fun _ => Ideal.ofBits_zero_f32) _ _ j
  show IntOp.andi (Ideal.cmp .oge (image x0 j) (point x1 k.val h j)) (Ideal.cmp .olt (image x0 j) (point x1 k.val h j + guard)) = _
  rw [e, point_apply]

/-- A hit is zero or one. -/
theorem hit_nonneg (j : S2x32x30x30.Idx) : 0 ≤ hit x0 x1 j := by
  show 0 ≤ Scalar.select _ (Ideal.ofBits .f32 0x3F800000#32) (Ideal.ofBits .f32 0x00000000#32)
  rw [Ideal.ofBits_zero_f32, Ideal.ofBits_one_f32]
  unfold Scalar.select
  split <;> norm_num

/-- A place not hit is clear of both intervals. -/
theorem clear_of_hit (j : S2x32x30x30.Idx) (h : hit x0 x1 j = 0) :
    Clear (padded x0 (j 0) (j 1) (j 2).val (j 3).val) (gridOf x1) := by
  have bit : ∀ {p q : Prop} [Decidable p] [Decidable q], p ∧ q →
      IntOp.andi (BitVec.ofBool (decide p)) (BitVec.ofBool (decide q)) = 1#1 := by
    intro p q _ _ hpq
    rw [decide_eq_true hpq.1, decide_eq_true hpq.2]
    rfl
  have one : ∀ b : BitVec 1, IntOp.ori 1#1 b = 1#1 ∧ IntOp.ori b 1#1 = 1#1 := by decide
  have unhit : IntOp.ori (near x0 (point x1 1 slices_S32x32x3x3x3_S1x1x1x1x1_0_0_0_0_1) j)
      (near x0 (point x1 2 slices_S32x32x3x3x3_S1x1x1x1x1_0_0_0_0_2) j) ≠ 1#1 := by
    intro e
    have e1 : hit x0 x1 j = Scalar.select (IntOp.ori (near x0 (point x1 1 slices_S32x32x3x3x3_S1x1x1x1x1_0_0_0_0_1) j)
      (near x0 (point x1 2 slices_S32x32x3x3x3_S1x1x1x1x1_0_0_0_0_2) j)) (Ideal.ofBits .f32 0x3F800000#32)
      (Ideal.ofBits .f32 0x00000000#32) := rfl
    rw [e, h, Ideal.ofBits_one_f32] at e1
    exact zero_ne_one e1
  constructor
  · intro hp
    have e : near x0 (point x1 1 slices_S32x32x3x3x3_S1x1x1x1x1_0_0_0_0_1) j = 1#1 :=
      (near_apply x0 x1 1 slices_S32x32x3x3x3_S1x1x1x1x1_0_0_0_0_1 j).trans (bit hp)
    refine unhit ?_
    rw [e]
    exact (one _).1
  · intro hp
    have e : near x0 (point x1 2 slices_S32x32x3x3x3_S1x1x1x1x1_0_0_0_0_2) j = 1#1 :=
      (near_apply x0 x1 2 slices_S32x32x3x3x3_S1x1x1x1x1_0_0_0_0_2 j).trans (bit hp)
    refine unhit ?_
    rw [e]
    exact (one _).2

/-! ## The sums -/

/-- A part at a pixel is the padded array at the tap's place. -/
theorem part_apply (y : S2x32x30x30.Idx → EReal) (r d : Fin 3) (h : S2x32x30x30.Slices ![0, 0, r.val, d.val] S2x32x28x28)
    (b : Fin 2) (c : Fin 32) (i j : Fin 28) : part y r.val d.val h (ValueIdx.ix4 b c i j)
      = y (ValueIdx.ix4 b c ⟨r.val + i.val, by omega⟩ ⟨d.val + j.val, by omega⟩) := by
  unfold part
  refine extractStridedSlice_apply ![0, 0, r.val, d.val] y h _ _ fun a => ?_
  match a with
  | ⟨0, _⟩ => exact (Nat.zero_add _).symm
  | ⟨1, _⟩ => exact (Nat.zero_add _).symm
  | ⟨2, _⟩ => rfl
  | ⟨3, _⟩ => rfl

/-- The nine parts at a pixel are a sum over tap row and tap column. -/
theorem hits_apply (y : S2x32x30x30.Idx → EReal) (b : Fin 2) (c : Fin 32) (i j : Fin 28) :
    hits y (ValueIdx.ix4 b c i j) = ∑ r : Fin 3, ∑ d : Fin 3,
      y (ValueIdx.ix4 b c (⟨r.val + i.val, by omega⟩ : Fin 30) (⟨d.val + j.val, by omega⟩ : Fin 30)) := by
  rw [Fin.sum_univ_three, Fin.sum_univ_three, Fin.sum_univ_three, Fin.sum_univ_three]
  rw [← part_apply y 0 0 slices_S2x32x30x30_S2x32x28x28_0_0_0_0, ← part_apply y 0 1 slices_S2x32x30x30_S2x32x28x28_0_0_0_1,
    ← part_apply y 0 2 slices_S2x32x30x30_S2x32x28x28_0_0_0_2, ← part_apply y 1 0 slices_S2x32x30x30_S2x32x28x28_0_0_1_0,
    ← part_apply y 1 1 slices_S2x32x30x30_S2x32x28x28_0_0_1_1, ← part_apply y 1 2 slices_S2x32x30x30_S2x32x28x28_0_0_1_2,
    ← part_apply y 2 0 slices_S2x32x30x30_S2x32x28x28_0_0_2_0, ← part_apply y 2 1 slices_S2x32x30x30_S2x32x28x28_0_0_2_1,
    ← part_apply y 2 2 slices_S2x32x30x30_S2x32x28x28_0_0_2_2]
  have z : ∀ p00 p01 p02 p10 p11 p12 p20 p21 p22 : EReal,
      Ideal.ofBits .f32 0x00000000#32 + p00 + p01 + p02 + p10 + p11 + p12 + p20 + p21 + p22
        = p00 + p01 + p02 + (p10 + p11 + p12) + (p20 + p21 + p22) := by
    intro p00 p01 p02 p10 p11 p12 p20 p21 p22
    rw [Ideal.ofBits_zero_f32, zero_add]
    simp only [add_assoc]
  exact z _ _ _ _ _ _ _ _ _

/-- A set mask bit says that the hits of the pixel's patch add up to zero. -/
theorem total_zero (b : Fin 2) (o : Fin 32) (i j : Fin 28) (h : fn (F := Ideal) x0 x1 x2 (ValueIdx.ix4 b o i j) = 1#1) :
    ∑ c : Fin 32, hits (hit x0 x1) (ValueIdx.ix4 b c i j) = 0 := by
  rw [fn_eq] at h
  have h' := (broadcastInDim_apply ![0, 2, 3] bcast_S2x28x28_S2x32x28x28_0_2_3 _ (ValueIdx.ix4 b o i j) (ValueIdx.ix3 b i j)
    fun a => by match a with | ⟨0, _⟩ => rfl | ⟨1, _⟩ => rfl | ⟨2, _⟩ => rfl).symm.trans h
  have e := of_bit h'
  have s := Ideal.hostReduceAdd_r4_a1 reducesTo_S2x32x28x28_S2x28x28_d1 (hits (hit x0 x1)) (Ideal.ofBits .f32 0x00000000#32)
    (ValueIdx.ix3 b i j)
  rw [Ideal.ofBits_zero_f32, zero_add] at s
  exact s.symm.trans ((congrArg (fun z => Ideal.hostReduceAdd reducesTo_S2x32x28x28_S2x28x28_d1 (hits (hit x0 x1)) z (ValueIdx.ix3 b i j))
    Ideal.ofBits_zero_f32.symm).trans (e.trans Ideal.ofBits_zero_f32))

/-- THE MASK READ: a set bit says that each entry of the pixel's patch is clear of both intervals. -/
theorem clear_of_mask (b : Fin 2) (o : Fin 32) (i j : Fin 28) (h : fn (F := Ideal) x0 x1 x2 (ValueIdx.ix4 b o i j) = 1#1)
    (k : Fin 288) : Clear (patchAt x0 b k i.val j.val) (gridOf x1) := by
  have s := total_zero x0 x1 x2 b o i j h
  have nn : ∀ c : Fin 32, 0 ≤ hits (hit x0 x1) (ValueIdx.ix4 b c i j) := fun c => by
    rw [hits_apply]
    exact Finset.sum_nonneg fun r _ => Finset.sum_nonneg fun d _ => hit_nonneg x0 x1 _
  have z := (Finset.sum_eq_zero_iff_of_nonneg fun c _ => nn c).mp s (⟨k.val / 9, by omega⟩ : Fin 32) (Finset.mem_univ _)
  rw [hits_apply] at z
  have zr := (Finset.sum_eq_zero_iff_of_nonneg fun r _ => Finset.sum_nonneg fun d _ => hit_nonneg x0 x1 _).mp z
    (⟨k.val % 9 / 3, by omega⟩ : Fin 3) (Finset.mem_univ _)
  have zd := (Finset.sum_eq_zero_iff_of_nonneg fun d _ => hit_nonneg x0 x1 _).mp zr
    (⟨k.val % 3, by omega⟩ : Fin 3) (Finset.mem_univ _)
  exact clear_of_hit x0 x1 _ zd

end Cert.Mask

end
-- ==== Proof.Near.lean ====
/-
  How far the two taps are apart: on a real ordered grid, whatever `x`, at most the share of each step of the values that one
  guard's length is of the step's ramp.
-/
module

public import proofs.«01_k».proof.Proof.Tap

@[expose] public section

noncomputable section

namespace Cert.Near

open Cert.Tap Idealize.ShloMosaic

/-- The absolute value of an extended real, as both programs take it. -/
def size (a : EReal) : EReal := max a (-a)

/-- The size of a real number is its absolute value. -/
theorem size_coe (r : ℝ) : size (r : EReal) = ((|r| : ℝ) : EReal) := by
  unfold size
  rw [← EReal.coe_neg]
  rcases le_total r (-r) with h | h
  · rw [max_eq_right (EReal.coe_le_coe_iff.mpr h), abs_eq_max_neg, max_eq_right h]
  · rw [max_eq_left (EReal.coe_le_coe_iff.mpr h), abs_eq_max_neg, max_eq_left h]

/-- What the guard can move on one interval. -/
def moved (p q v w : EReal) : EReal := Ideal.div guard (q - p + guard) * size (w - v)

/-- What it can move at one tap: the two intervals together. -/
def slack (p v : Fin 3 → EReal) : EReal := moved (p 0) (p 1) (v 0) (v 1) + moved (p 1) (p 2) (v 1) (v 2)

/-- The guard's share of a ramp; from its second breakpoint on a ramp is short of `1` by no more than this. -/
theorem share {p q : ℝ} (h : p ≤ q) : ∃ r : ℝ, 0 ≤ r ∧ Ideal.div guard ((q : EReal) - p + guard) = (r : EReal)
    ∧ ∀ (x : EReal) (t : ℝ), ramp x p q = (t : EReal) → t ≤ 1 ∧ ((q : EReal) ≤ x → 1 - t ≤ r) := by
  obtain ⟨e, he, hg⟩ := guard_pos
  have hd : 0 < q - p + e := by linarith
  have ed : (q : EReal) - p + guard = ((q - p + e : ℝ) : EReal) := by rw [hg]; norm_cast
  have hd0 : ((q - p + e : ℝ) : EReal) ≠ 0 := by exact_mod_cast hd.ne'
  refine ⟨e / (q - p + e), by positivity, ?_, fun x t ht => ⟨?_, fun hx => ?_⟩⟩
  · rw [ed, Ideal.div, if_neg hd0, ← EReal.coe_inv, hg, ← EReal.coe_mul, div_eq_mul_inv]
  · have h1 : ramp x p q ≤ 1 := min_le_left _ _
    rw [ht] at h1
    exact_mod_cast h1
  · have low : ((1 - e / (q - p + e) : ℝ) : EReal) ≤ (x - (p : EReal)) * (((q - p + e)⁻¹ : ℝ) : EReal) := by
      induction x with
      | bot => exact absurd hx (by simp)
      | top => rw [EReal.top_sub_coe, EReal.top_mul_coe_of_pos (inv_pos.mpr hd)]; exact le_top
      | coe y =>
        have hy := EReal.coe_le_coe_iff.mp hx
        rw [← EReal.coe_sub, ← EReal.coe_mul, EReal.coe_le_coe_iff, ← div_eq_mul_inv, le_div_iff₀ hd, sub_mul,
          div_mul_cancel₀ _ hd.ne']
        linarith
    have le1 : ((1 - e / (q - p + e) : ℝ) : EReal) ≤ 1 := by
      have : 0 ≤ e / (q - p + e) := by positivity
      exact_mod_cast (by linarith : (1 - e / (q - p + e) : ℝ) ≤ 1)
    have all : ((1 - e / (q - p + e) : ℝ) : EReal) ≤ ramp x p q := by
      unfold ramp
      rw [ed, Ideal.div, if_neg hd0, ← EReal.coe_inv]
      exact le_min le1 (low.trans (le_max_right _ _))
    rw [ht, EReal.coe_le_coe_iff] at all
    linarith

/-- The reals behind a bound of this form: a multiple of each of two steps. -/
theorem two_steps {a b c s t r q : ℝ} (ht : t ≤ 1) (hs : s ≤ 1) (hr : 1 - t ≤ r) (hq : 1 - s ≤ q) :
    |(a - b) * (1 - t) + (b - c) * (1 - s)| ≤ r * |b - a| + q * |c - b| := by
  refine (abs_add_le _ _).trans ?_
  rw [abs_mul, abs_mul, abs_of_nonneg (by linarith : (0 : ℝ) ≤ 1 - t), abs_of_nonneg (by linarith : (0 : ℝ) ≤ 1 - s),
    abs_sub_comm a b, abs_sub_comm b c]
  have h1 := mul_le_mul_of_nonneg_left hr (abs_nonneg (b - a))
  have h2 := mul_le_mul_of_nonneg_left hq (abs_nonneg (c - b))
  linarith

/-- THE TWO TAPS ARE NEAR on a real ordered grid, whatever `x`. -/
theorem near {p v : Fin 3 → EReal} (g : Grid p v) (x : EReal) : ∃ K R S : ℝ, kernelTap x p v = (K : EReal)
    ∧ refTap x p v = (R : EReal) ∧ slack p v = (S : EReal) ∧ |K - R| ≤ S := by
  obtain ⟨p0, e0⟩ := g.p_real 0
  obtain ⟨p1, e1⟩ := g.p_real 1
  obtain ⟨p2, e2⟩ := g.p_real 2
  obtain ⟨v0, f0⟩ := g.v_real 0
  obtain ⟨v1, f1⟩ := g.v_real 1
  obtain ⟨v2, f2⟩ := g.v_real 2
  have h01 := g.le01
  have h12 := g.le12
  rw [e0, e1] at h01; rw [e1, e2] at h12
  have k01 := EReal.coe_le_coe_iff.mp h01
  have k12 := EReal.coe_le_coe_iff.mp h12
  obtain ⟨r, r0, er, hr⟩ := share k01
  obtain ⟨q, q0, eq, hq⟩ := share k12
  obtain ⟨t, ht⟩ := ramp_real x p0 p1
  obtain ⟨s, hs⟩ := ramp_real x p1 p2
  obtain ⟨t1, tr⟩ := hr x t ht
  obtain ⟨s1, sq⟩ := hq x s hs
  have zero : ∀ {r : ℝ}, (r : EReal) = 0 → r = 0 := fun h => by exact_mod_cast h
  have nn : 0 ≤ r * |v1 - v0| + q * |v2 - v1| := by positivity
  have same : ∀ {a : ℝ}, |a - a| ≤ r * |v1 - v0| + q * |v2 - v1| := by
    intro a; rw [sub_self, abs_zero]; exact nn
  have S : slack p v = ((r * |v1 - v0| + q * |v2 - v1| : ℝ) : EReal) := by
    unfold slack moved
    rw [e0, e1, e2, f0, f1, f2, er, eq, ← EReal.coe_sub, ← EReal.coe_sub, size_coe, size_coe]
    norm_cast
  have K : kernelTap x p v = (((v0 - v1) * (1 - t) + (v2 - v1) * s + v1 : ℝ) : EReal) := by
    unfold kernelTap
    rw [e0, e1, e2, f0, f1, f2, ht, hs, real_tap]
  refine ⟨_, (refTap x p v).toReal, _, K, ?_, S, ?_⟩ <;> unfold refTap <;> rw [e0, e1, e2, f0, f1, f2]
  · rw [ht, hs]
    split_ifs <;> norm_cast
  rw [ht, hs]
  split_ifs with a b c d d
  · rw [EReal.toReal_coe]
    have := two_steps (a := v0) (b := v1) (c := v2) t1 s1 (tr (h12.trans a)) (sq a)
    rwa [show (v0 - v1) * (1 - t) + (v1 - v2) * (1 - s) = (v0 - v1) * (1 - t) + (v2 - v1) * s + v1 - v2 by ring] at this
  · rw [EReal.toReal_coe, zero (ht.symm.trans (ramp_zero k01 b)), zero (hs.symm.trans (ramp_zero k12 (b.trans h01))),
      show (v0 - v1) * (1 - 0) + (v2 - v1) * 0 + v1 = v0 by ring]
    exact same
  · exact absurd (d ▸ c) a
  · rw [← EReal.coe_sub, ← EReal.coe_mul, ← EReal.coe_add, EReal.toReal_coe]
    have := two_steps (a := v0) (b := v1) (c := v1) (s := 1) (q := 0) t1 le_rfl (tr c) (by norm_num)
    rw [show (v0 - v1) * (1 - t) + (v2 - v1) * s + v1 - (v1 + s * (v2 - v1)) = (v0 - v1) * (1 - t) + (v1 - v1) * (1 - 1) by ring]
    refine this.trans ?_
    have : 0 ≤ q * |v2 - v1| := by positivity
    linarith
  · exact absurd (not_le.mp c).le (d ▸ b)
  · rw [← EReal.coe_sub, ← EReal.coe_mul, ← EReal.coe_add, EReal.toReal_coe,
      zero (hs.symm.trans (ramp_zero k12 (not_le.mp c).le)),
      show (v0 - v1) * (1 - t) + (v2 - v1) * 0 + v1 = v0 + t * (v1 - v0) by ring]
    exact same

/-- A finite sum of real numbers among the extended reals is their real sum. -/
theorem sum_coe {n : ℕ} (f : Fin n → ℝ) : ∑ k, (f k : EReal) = ((∑ k, f k : ℝ) : EReal) := by
  induction n with
  | zero => rfl
  | succ n ih => rw [Fin.sum_univ_succ, Fin.sum_univ_succ, ih, EReal.coe_add]

/-- THE SUMS ARE NEAR: the sums of the taps are no further apart than the sum of what the guard can move. -/
theorem sums_near {n : ℕ} {p : Fin 3 → EReal} (v : Fin n → Fin 3 → EReal) (x : Fin n → EReal) (g : ∀ k, Grid p (v k)) :
    size ((∑ k, kernelTap (x k) p (v k)) - ∑ k, refTap (x k) p (v k)) ≤ ∑ k, slack p (v k) := by
  choose K R S hK hR hS h using fun k => near (g k) (x k)
  rw [Finset.sum_congr rfl fun k _ => hK k, Finset.sum_congr rfl fun k _ => hR k, Finset.sum_congr rfl fun k _ => hS k,
    sum_coe, sum_coe, sum_coe, ← EReal.coe_sub, size_coe, EReal.coe_le_coe_iff, ← Finset.sum_sub_distrib]
  exact (Finset.abs_sum_le_sum_abs _ _).trans (Finset.sum_le_sum fun k _ => h k)

end Cert.Near

end
-- ==== Proof.Bound.lean ====
/-
  The bound read: the postcondition compares the distance of the result from the reference's with a sum over the 288 rows of
  the patch.
-/
module

public import proofs.«01_k».proof.Defs
public import proofs.«01_k».proof.Proof.RefTap
public import proofs.«01_k».proof.Proof.Near
public import Idealize.ShloMosaic.Lib.Pointwise.Reduce

@[expose] public section

noncomputable section

namespace Cert.Bound

open Cert.Post_near_reference Cert.Post_near_reference.Facts Cert.Tap Cert.Near Cert.RefOrder Idealize.ShloMosaic

variable [Facts] (x0 : S2x32x28x28.Idx → EReal) (x1 x2 : S32x32x3x3x3.Idx → EReal) (y : S2x32x28x28.Idx → EReal)

/-- One column of a weight array in rows. -/
def column (x : S32x32x3x3x3.Idx → EReal) (k : ℕ) (h : S32x288x3.Slices ![0, 0, k] S32x288x1) : FVec Ideal S32x288 .f32 :=
  shapeCast S32x288 (extractStridedSlice S32x288x1 ![0, 0, k]
    (shapeCast S32x288x3 x shapeCasts_S32x32x3x3x3_S32x288x3) h) shapeCasts_S32x288x1_S32x288

/-- What the guard can move on one interval, at each weight. -/
def moved (k l : ℕ) (h : S32x288x3.Slices ![0, 0, k] S32x288x1) (h' : S32x288x3.Slices ![0, 0, l] S32x288x1) :
    FVec Ideal S32x288 .f32 :=
  mulf (Host.divf (broadcastInDim S32x288 ![] bcast_S_S32x288 (constant (F := Ideal) S_ .f32 0x358637BD#32))
      (addf (subf (column x1 l h') (column x1 k h))
        (broadcastInDim S32x288 ![] bcast_S_S32x288 (constant (F := Ideal) S_ .f32 0x358637BD#32))))
    (Host.absf (subf (column x2 l h') (column x2 k h)))

/-- The bound of each output channel. -/
def bound : FVec Ideal S32 .f32 :=
  Host.reduceAdd (addf (moved x1 x2 0 1 slices_S32x288x3_S32x288x1_0_0_0 slices_S32x288x3_S32x288x1_0_0_1)
      (moved x1 x2 1 2 slices_S32x288x3_S32x288x1_0_0_1 slices_S32x288x3_S32x288x1_0_0_2))
    (constant (F := Ideal) S_ .f32 0x00000000#32) reducesTo_S32x288_S32_d1 h_S_

/-- The postcondition compares the distance from the reference's result with the bound. -/
theorem fn_eq : fn (F := Ideal) x0 x1 x2 y
    = cmpf .ole (Host.absf (subf (F := Ideal) (φ := .f32) y (Cert.ReferenceIdeal.Read.val_main_v129 (F := Ideal) x0 x1 x2)))
      (broadcastInDim S2x32x28x28 ![0, 1, 2, 3] bcast_S1x32x1x1_S2x32x28x28_0_1_2_3
        (broadcastInDim S1x32x1x1 ![1] bcast_S32_S1x32x1x1_1 (bound x1 x2))) := rfl

/-- One column of an array in rows, at an index. -/
theorem slice_apply (z : S32x288x3.Idx → EReal) (j : Fin 3) (h : S32x288x3.Slices ![0, 0, j.val] S32x288x1)
    (o : Fin 32) (k : Fin 288) :
    shapeCast S32x288 (extractStridedSlice S32x288x1 ![0, 0, j.val] z h) shapeCasts_S32x288x1_S32x288 (ValueIdx.ix2 o k)
      = z (ValueIdx.ix3 o k j) := by
  refine (shapeCast_apply (extractStridedSlice S32x288x1 ![0, 0, j.val] z h) shapeCasts_S32x288x1_S32x288 (ValueIdx.ix2 o k)
    (ValueIdx.ix3 o k (0 : Fin 1)) ?_).trans ?_
  · rw [Shape.rowMajor_val_three, Shape.rowMajor_val_two]
    show (o.val * 288 + k.val) * 1 + 0 = o.val * 288 + k.val
    omega
  refine extractStridedSlice_apply ![0, 0, j.val] z h (ValueIdx.ix3 o k (0 : Fin 1)) (ValueIdx.ix3 o k j) fun a => ?_
  match a with
  | ⟨0, _⟩ => exact (Nat.zero_add _).symm
  | ⟨1, _⟩ => exact (Nat.zero_add _).symm
  | ⟨2, _⟩ => rfl

/-- A column's entry is the weight's entry of that number. -/
theorem column_apply (x : S32x32x3x3x3.Idx → EReal) (j : Fin 3) (h : S32x288x3.Slices ![0, 0, j.val] S32x288x1)
    (o : Fin 32) (k : Fin 288) : column x j.val h (ValueIdx.ix2 o k) = RefTap.vals x o k j :=
  (slice_apply (shapeCast S32x288x3 x shapeCasts_S32x32x3x3x3_S32x288x3) j h o k).trans
    (RefTap.value_apply (ValueIdx.ix3 o k j) o k j rfl rfl rfl)

/-- One interval's part of the bound at a weight. -/
theorem moved_apply {g : Fin 3 → EReal} (sh : Shared x1 g) (a b : Fin 3) (h : S32x288x3.Slices ![0, 0, a.val] S32x288x1)
    (h' : S32x288x3.Slices ![0, 0, b.val] S32x288x1) (o : Fin 32) (k : Fin 288) :
    Bound.moved x1 x2 a.val b.val h h' (ValueIdx.ix2 o k)
      = Near.moved (g a) (g b) (RefTap.vals x2 o k a) (RefTap.vals x2 o k b) := by
  have e : ∀ (d : Fin 3) (hd : S32x288x3.Slices ![0, 0, d.val] S32x288x1), column x1 d.val hd (ValueIdx.ix2 o k) = g d :=
    fun d hd => (column_apply x1 d hd o k).trans (sh.eq _)
  show Ideal.div guard (column x1 b.val h' (ValueIdx.ix2 o k) - column x1 a.val h (ValueIdx.ix2 o k) + guard)
    * size (column x2 b.val h' (ValueIdx.ix2 o k) - column x2 a.val h (ValueIdx.ix2 o k)) = _
  rw [e, e, column_apply, column_apply]
  rfl

/-- THE BOUND of an output channel: what the guard can move, added over the rows of the patch. -/
theorem bound_apply {g : Fin 3 → EReal} (sh : Shared x1 g) (o : Fin 32) :
    bound x1 x2 (ValueIdx.ix1 o) = ∑ k : Fin 288, slack g (RefTap.vals x2 o k) := by
  unfold bound
  have s := Ideal.hostReduceAdd_r2_a1 reducesTo_S32x288_S32_d1
    (addf (Bound.moved x1 x2 0 1 slices_S32x288x3_S32x288x1_0_0_0 slices_S32x288x3_S32x288x1_0_0_1)
      (Bound.moved x1 x2 1 2 slices_S32x288x3_S32x288x1_0_0_1 slices_S32x288x3_S32x288x1_0_0_2))
    (Ideal.ofBits .f32 0x00000000#32) (ValueIdx.ix1 o)
  refine Eq.trans s ?_
  rw [Ideal.ofBits_zero_f32, zero_add]
  exact Finset.sum_congr rfl fun k _ => congr
    (congrArg (fun a b : EReal => a + b) (moved_apply x1 x2 sh 0 1 slices_S32x288x3_S32x288x1_0_0_0 slices_S32x288x3_S32x288x1_0_0_1 o k))
    (moved_apply x1 x2 sh 1 2 slices_S32x288x3_S32x288x1_0_0_1 slices_S32x288x3_S32x288x1_0_0_2 o k)

/-- The postcondition holds at an index where the result is within the sum of its channel. -/
theorem fn_one {g : Fin 3 → EReal} (sh : Shared x1 g) (b : Fin 2) (o : Fin 32) (i j : Fin 28)
    (h : size (y (ValueIdx.ix4 b o i j) - Cert.ReferenceIdeal.Read.val_main_v129 (F := Ideal) x0 x1 x2 (ValueIdx.ix4 b o i j))
      ≤ ∑ k : Fin 288, slack g (RefTap.vals x2 o k)) :
    fn (F := Ideal) x0 x1 x2 y (ValueIdx.ix4 b o i j) = 1#1 := by
  rw [fn_eq]
  have e : broadcastInDim S2x32x28x28 ![0, 1, 2, 3] bcast_S1x32x1x1_S2x32x28x28_0_1_2_3
      (broadcastInDim S1x32x1x1 ![1] bcast_S32_S1x32x1x1_1 (bound x1 x2)) (ValueIdx.ix4 b o i j)
      = ∑ k : Fin 288, slack g (RefTap.vals x2 o k) := by
    refine (broadcastInDim_apply (s := S1x32x1x1) (t := S2x32x28x28) ![0, 1, 2, 3] _ _ (ValueIdx.ix4 b o i j)
      (ValueIdx.ix4 (0 : Fin 1) o (0 : Fin 1) (0 : Fin 1)) fun a => ?_).trans ?_
    · match a with | ⟨0, _⟩ => rfl | ⟨1, _⟩ => rfl | ⟨2, _⟩ => rfl | ⟨3, _⟩ => rfl
    refine (broadcastInDim_apply (s := S32) (t := S1x32x1x1) ![1] _ _ (ValueIdx.ix4 (0 : Fin 1) o (0 : Fin 1) (0 : Fin 1))
      (ValueIdx.ix1 o) fun a => ?_).trans (bound_apply x1 x2 sh o)
    match a with | ⟨0, _⟩ => rfl
  exact congrArg BitVec.ofBool (decide_eq_true (h.trans_eq e.symm))

end Cert.Bound

end
-- ==== Proof.lean ====
/-
  The proof of `Cert.Claim`: the frames of the kernel and of the reference, the (empty) list of replaced operations, and the
  algebraic claim: where the mask is set, the kernel's result and the reference's are the same sum of 288 taps. At every
  pixel the two are as near as the postcondition says.
-/
module

public import proofs.«01_k».proof.Defs
public import proofs.«01_k».proof.Proof.Gen.Kernel.Frame
public import proofs.«01_k».proof.Proof.KernelSum
public import proofs.«01_k».proof.Proof.RefValue
public import proofs.«01_k».proof.Proof.Assumed
public import proofs.«01_k».proof.Proof.Mask
public import proofs.«01_k».proof.Proof.Bound
public import proofs.«01_k».proof.Proof.Gen.Post_near_reference
public import Idealize.ShloMosaic.Lib.Quiescent

@[expose] public section

noncomputable section

namespace Cert.Proof

open Idealize.ShloMosaic Idealize.SL.Sem

/-! ## The runs -/

/-- The kernel as printed runs, leaves its arguments alone and ends with its counters at zero. -/
theorem frame_kernel : Cert.quiescent_Kernel := fun m ρ _ => Cert.Kernel.Gen.frame m ρ

/-- The same of the kernel on exact numbers. -/
theorem frame_ideal : Cert.quiescent_KernelIdeal := fun m ρ _ => Cert.KernelIdeal.Gen.frame m ρ

/-- The same where the precondition holds. -/
theorem frame_ideal_pre : Cert.quiescent_KernelIdeal_pre_shared_grid := fun m ρ _ => Cert.KernelIdeal.Gen.frame m ρ

/-- The reference's frame, from any memory. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
        = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference runs, leaves its arguments alone and ends with its counters at zero. -/
theorem frame_reference : Cert.quiescent_ReferenceIdeal := fun m ρ _ => reference_run m ρ

/-- The same where the precondition holds. -/
theorem frame_reference_pre : Cert.quiescent_ReferenceIdeal_pre_shared_grid := fun m ρ _ => reference_run m ρ

/-! ## The values -/

/-- The two results agree at a pixel, on arguments of which the precondition is read, where the pixel's patch is clear. -/
theorem results_eq (x0 : Cert.KernelIdeal.S2x32x28x28.Idx → EReal) (x1 x2 : Cert.KernelIdeal.S32x32x3x3x3.Idx → EReal)
    (g : Fin 3 → EReal) (sh : RefOrder.Shared x1 g) (gr : ∀ (o : Fin 32) (k : Fin 288), Tap.Grid g (RefTap.vals x2 o k))
    (i : Cert.KernelIdeal.S2x32x28x28.Idx)
    (clear : ∀ k : Fin 288, Tap.Clear (Image.patchAt x0 (i 0) k (i 2).val (i 3).val) g) :
    Run.imageOf (Block.output (Run.imageRows x0) (Run.weightRows x1) (Run.weightRows x2)) i
      = Cert.ReferenceIdeal.Read.val_main_v129 (F := Ideal) x0 x1 x2 i := by
  obtain ⟨d01, d12⟩ := Assumed.divisors (gr 0 0)
  rw [KernelSum.result_apply x0 x1 x2 g sh d01 d12 i, RefValue.result_apply sh i]
  exact Finset.sum_congr rfl fun k _ => Tap.kernelTap_eq_refTap (gr (i 1) k) (clear k)

/-- THE ALGEBRAIC CLAIM. -/
theorem algebraic : Cert.algebraic_KernelIdeal_ReferenceIdeal_on_clear_of_guard_pre_shared_grid := by
  intro m ρ m' ρ' pre agree
  refine ⟨fun c => Run.imageOf (Run.rowsOut m c), ?_, ?_⟩
  · exact (θ_run Cert.KernelIdeal.defs _ _).mono (fun _ h c => ⟨fun i _ => congrFun (h c).1 i, (h c).2⟩) (Run.run m ρ)
  refine (θ_run Cert.ReferenceIdeal.defs _ _).mono (fun _ h c => ⟨fun i hi => (congrFun (h c).1 i).trans ?_, (h c).2⟩)
    (Cert.ReferenceIdeal.Value.run (F := Ideal) m' ρ')
  obtain ⟨a0, a1, a2⟩ := agree c
  obtain ⟨h1, h2, h3, h4, h5⟩ := pre c
  obtain ⟨sh, gr⟩ := Assumed.of_pre _ _ _ h1 h2 h3 h4 h5
  refine (congrFun (Cert.ReferenceIdeal.Read.val_main_v129_eq (StableHlo.launchContents m' c)) i).trans ?_
  rw [StableHlo.launchContents_devRef, StableHlo.launchContents_devRef, StableHlo.launchContents_devRef, a0, a1, a2]
  exact (results_eq _ _ _ _ sh gr i fun k => Mask.clear_of_mask _ _ _ (i 0) (i 1) (i 2) (i 3)
    ((congrArg _ (ValueIdx.eq_ix4 i).symm).trans hi) k).symm

/-- The kernel's result is near the reference's at every pixel, on arguments of which the precondition is read. -/
theorem results_near (x0 : Cert.KernelIdeal.S2x32x28x28.Idx → EReal) (x1 x2 : Cert.KernelIdeal.S32x32x3x3x3.Idx → EReal)
    (g : Fin 3 → EReal) (sh : RefOrder.Shared x1 g) (gr : ∀ (o : Fin 32) (k : Fin 288), Tap.Grid g (RefTap.vals x2 o k))
    (i : Cert.KernelIdeal.S2x32x28x28.Idx) :
    Near.size (Run.imageOf (Block.output (Run.imageRows x0) (Run.weightRows x1) (Run.weightRows x2)) i
      - Cert.ReferenceIdeal.Read.val_main_v129 (F := Ideal) x0 x1 x2 i) ≤ ∑ k : Fin 288, Near.slack g (RefTap.vals x2 (i 1) k) := by
  obtain ⟨d01, d12⟩ := Assumed.divisors (gr 0 0)
  rw [KernelSum.result_apply x0 x1 x2 g sh d01 d12 i, RefValue.result_apply sh i]
  exact Near.sums_near _ _ (gr (i 1))

/-- THE BOUND AT EVERY PIXEL. -/
theorem near_reference : Cert.holds_KernelIdeal_near_reference_pre_shared_grid := by
  intro m ρ pre
  refine (θ_run Cert.KernelIdeal.defs _ _).mono (fun _ h c => ?_) (Run.run m ρ)
  obtain ⟨h1, h2, h3, h4, h5⟩ := pre c
  obtain ⟨sh, gr⟩ := Assumed.of_pre _ _ _ h1 h2 h3 h4 h5
  refine ⟨(h c).2.1, (h c).2.2.1, (h c).2.2.2, ?_⟩
  rw [(h c).1]
  funext i
  refine (congrArg _ (ValueIdx.eq_ix4 i)).trans (Bound.fn_one _ _ _ _ sh (i 0) (i 1) (i 2) (i 3) ?_)
  exact results_near _ _ _ _ sh gr (ValueIdx.ix4 (i 0) (i 1) (i 2) (i 3))

/-- THE CLAIM. -/
theorem claim : Cert.Claim :=
  ⟨Cert.Kernel.Gen.facts, Cert.KernelIdeal.Gen.facts, Cert.ReferenceIdeal.Gen.facts, Cert.Pre_shared_grid.Gen.facts,
    Cert.Post_near_reference.Gen.facts, Cert.On_clear_of_guard.Gen.facts, frame_kernel, frame_ideal, frame_ideal_pre,
    frame_reference, frame_reference_pre, trivial, algebraic, near_reference⟩

end Cert.Proof

end
